-- ==== Defs.lean ====
def Pre_Kernel [hPre_cu_in_range : Cert.Pre_cu_in_range.Facts] (m : (ℓ : Loc Cert.Kernel.nD Cert.Kernel.τ Cert.Kernel.sig) → Buf (Elt Bits) ℓ) : Prop :=
  ∀ c : Dev Cert.Kernel.nD,
    (Cert.Pre_cu_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_cu_in_range : Cert.Pre_cu_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_cu_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_cu_is_ragged [hPre_cu_is_ragged : Cert.Pre_cu_is_ragged.Facts] (m : (ℓ : Loc Cert.KernelIdeal.nD Cert.KernelIdeal.τ Cert.KernelIdeal.sig) → Buf (Elt Ideal) ℓ) : Prop :=
  ∀ c : Dev Cert.KernelIdeal.nD,
    (Cert.Pre_cu_is_ragged.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_cu_is_ragged [hPre_cu_is_ragged : Cert.Pre_cu_is_ragged.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_cu_is_ragged.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_cu_in_range : Cert.Pre_cu_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_cu_in_range : Cert.Pre_cu_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_cu_is_ragged [hKernelIdeal : Cert.KernelIdeal.Facts] [hPre_cu_is_ragged : Cert.Pre_cu_is_ragged.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_cu_is_ragged m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_cu_is_ragged [hReferenceIdeal : Cert.ReferenceIdeal.Facts] [hPre_cu_is_ragged : Cert.Pre_cu_is_ragged.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_cu_is_ragged m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_cu_is_ragged [hKernelIdeal : Cert.KernelIdeal.Facts] [hReferenceIdeal : Cert.ReferenceIdeal.Facts] [hPre_cu_is_ragged : Cert.Pre_cu_is_ragged.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_cu_is_ragged m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_cu_in_range : Cert.Pre_cu_in_range.Facts) (hPre_cu_is_ragged : Cert.Pre_cu_is_ragged.Facts),
    quiescent_Kernel (hKernel := hKernel) (hPre_cu_in_range := hPre_cu_in_range)
    ∧ quiescent_KernelIdeal (hKernelIdeal := hKernelIdeal) (hPre_cu_in_range := hPre_cu_in_range)
    ∧ quiescent_KernelIdeal_pre_cu_is_ragged (hKernelIdeal := hKernelIdeal) (hPre_cu_is_ragged := hPre_cu_is_ragged)
    ∧ quiescent_ReferenceIdeal (hReferenceIdeal := hReferenceIdeal)
    ∧ quiescent_ReferenceIdeal_pre_cu_is_ragged (hReferenceIdeal := hReferenceIdeal) (hPre_cu_is_ragged := hPre_cu_is_ragged)
    ∧ preserves_Kernel_KernelIdeal
    ∧ algebraic_KernelIdeal_ReferenceIdeal_pre_cu_is_ragged (hKernelIdeal := hKernelIdeal) (hReferenceIdeal := hReferenceIdeal) (hPre_cu_is_ragged := hPre_cu_is_ragged)
-- ==== Pre_cu_in_range.lean ====
abbrev S8192x512 : Shape := ⟨2, ![8192, 512]⟩
abbrev S9 : Shape := ⟨1, ![9]⟩
abbrev S_ : Shape := ⟨0, ![]⟩

class Facts : Prop where
  bcast_S_S9 : S_.BroadcastsInDim S9 (![] : Fin 0 → Fin S9.rank)

variable [Facts]

def fn {F : FTy → Type} [FloatOps F] (main_arg0 : FVec F S8192x512 .f32) (main_arg1 : IVec S9 32) : IVec S9 1 :=
  let main_c : IVec S_ 32 := constantI S_ 32 0#32
  let main_v0 : IVec S9 32 := broadcastInDim S9 ![] bcast_S_S9 main_c
  let main_v1 : IVec S9 1 := cmpi .sge main_arg1 main_v0
  let main_c_0 : IVec S_ 32 := constantI S_ 32 8192#32
  let main_v2 : IVec S9 32 := broadcastInDim S9 ![] bcast_S_S9 main_c_0
  let main_v3 : IVec S9 1 := cmpi .sle main_arg1 main_v2
  let main_v4 : IVec S9 1 := andi main_v1 main_v3
  main_v4
-- ==== Pre_cu_is_ragged.lean ====
abbrev S8192x512 : Shape := ⟨2, ![8192, 512]⟩
abbrev S9 : Shape := ⟨1, ![9]⟩
abbrev S8 : Shape := ⟨1, ![8]⟩
abbrev S1 : Shape := ⟨1, ![1]⟩
abbrev S_ : Shape := ⟨0, ![]⟩

class Facts : Prop where
  slices_S9_S8_0 : S9.Slices ![0] S8
  slices_S9_S8_1 : S9.Slices ![1] S8
  slices_S9_S1_0 : S9.Slices ![0] S1
  shapeCasts_S1_S_ : S1.ShapeCasts S_
  bcast_S_S8 : S_.BroadcastsInDim S8 (![] : Fin 0 → Fin S8.rank)

variable [Facts]

def fn {F : FTy → Type} [FloatOps F] (main_arg0 : FVec F S8192x512 .f32) (main_arg1 : IVec S9 32) : IVec S8 1 :=
  let main_v0 : IVec S8 32 := (extractStridedSlice S8 ![0] · slices_S9_S8_0) main_arg1
  let main_v1 : IVec S8 32 := (extractStridedSlice S8 ![1] · slices_S9_S8_1) main_arg1
  let main_v2 : IVec S1 32 := (extractStridedSlice S1 ![0] · slices_S9_S1_0) main_arg1
  let main_v3 : IVec S_ 32 := shapeCast S_ main_v2 shapeCasts_S1_S_
  let main_c : IVec S_ 32 := constantI S_ 32 0#32
  let main_v4 : IVec S_ 1 := cmpi .eq main_v3 main_c
  let main_v5 : IVec S8 1 := cmpi .sle main_v0 main_v1
  let main_v6 : IVec S8 1 := broadcastInDim S8 ![] bcast_S_S8 main_v4
  let main_v7 : IVec S8 1 := andi main_v6 main_v5
  let main_c_0 : IVec S_ 32 := constantI S_ 32 8192#32
  let main_v8 : IVec S8 32 := broadcastInDim S8 ![] bcast_S_S8 main_c_0
  let main_v9 : IVec S8 1 := cmpi .sle main_v1 main_v8
  let main_v10 : IVec S8 1 := andi main_v7 main_v9
  main_v10
-- ==== Kernel.lean ====
abbrev S8192x512 : Shape := ⟨2, ![8192, 512]⟩
abbrev S9 : Shape := ⟨1, ![9]⟩
abbrev S_ : Shape := ⟨0, ![]⟩
abbrev S16 : Shape := ⟨1, ![16]⟩
abbrev S1 : Shape := ⟨1, ![1]⟩
abbrev S16384x512 : Shape := ⟨2, ![16384, 512]⟩
abbrev S16x512 : Shape := ⟨2, ![16, 512]⟩
abbrev S1x16 : Shape := ⟨2, ![1, 16]⟩
abbrev S128x512 : Shape := ⟨2, ![128, 512]⟩
abbrev S1x512 : Shape := ⟨2, ![1, 512]⟩
abbrev S8x2048x512 : Shape := ⟨3, ![8, 2048, 512]⟩

abbrev nBuf : Table → Nat
  | .hbm => 9
  | .local .scVector .vmem => 2
  | _ => 0

abbrev bufTy : (tb : Table) → Fin (nBuf tb) → BufTy
  | .hbm, ⟨0, _⟩ => ⟨S8192x512, .f32⟩
  | .hbm, ⟨1, _⟩ => ⟨S9, .i32⟩
  | .hbm, ⟨2, _⟩ => ⟨S_, .i32⟩
  | .hbm, ⟨3, _⟩ => ⟨S16, .i32⟩
  | .hbm, ⟨4, _⟩ => ⟨S_, .i32⟩
  | .hbm, ⟨5, _⟩ => ⟨S1, .i32⟩
  | .hbm, ⟨6, _⟩ => ⟨S16, .i32⟩
  | .hbm, ⟨7, _⟩ => ⟨S16384x512, .f32⟩
  | .hbm, ⟨8, _⟩ => ⟨S8x2048x512, .f32⟩
  | .local .scVector .vmem, ⟨0, _⟩ => ⟨S16, .i32⟩
  | .local .scVector .vmem, ⟨1, _⟩ => ⟨S16x512, .f32⟩
  | _, _ => ⟨S8192x512, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 45 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => false
  | ⟨38, _⟩ => false
  | ⟨39, _⟩ => false
  | ⟨40, _⟩ => false
  | ⟨41, _⟩ => false
  | ⟨42, _⟩ => false
  | ⟨43, _⟩ => false
  | ⟨44, _⟩ => false
  | _ => false

abbrev sig : RefSig :=
  ofTables nBuf rfl bufTy 4 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_c_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_arg0_scv : Ref sig .scVector := ⟨.hbm, 0, rfl⟩
abbrev main_v2_scv : Ref sig .scVector := ⟨.hbm, 6, rfl⟩
abbrev main_v3_scv : Ref sig .scVector := ⟨.hbm, 7, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_11 : BitVec 32 := 0#32
  let c32_i32 : BitVec 32 := 32#32
  let v30 : BitVec 32 := Scalar.addi c0_i32_11 c32_i32
  let c1_i32_12 : BitVec 32 := 1#32
  ⟨c0_i32_11, v30, c1_i32_12⟩
def k0_off1 (k0_t1 : Fin k0_t1_loop.trips) : Fin 2 → Nat :=
  let c0_i32_89 : BitVec 32 := 0#32
  let v174 : Index := Scalar.indexCast c0_i32_89
  let c0_i32_11 : BitVec 32 := 0#32
  let c1_i32_12 : BitVec 32 := 1#32
  let arg7 : BitVec 32 := Scf.iv c0_i32_11 c1_i32_12 k0_t1
  let c16_i32 : BitVec 32 := 16#32
  let v173 : BitVec 32 := Scalar.muli arg7 c16_i32
  let v175 : Index := Scalar.indexCast v173
  ![0, v175.toNat]
def k0_off2 (k0_t1 : Fin k0_t1_loop.trips) : Fin 2 → Nat :=
  let c1_i32_92 : BitVec 32 := 1#32
  let v181 : Index := Scalar.indexCast c1_i32_92
  let c0_i32_11 : BitVec 32 := 0#32
  let c1_i32_12 : BitVec 32 := 1#32
  let arg7 : BitVec 32 := Scf.iv c0_i32_11 c1_i32_12 k0_t1
  let c16_i32_91 : BitVec 32 := 16#32
  let v180 : BitVec 32 := Scalar.muli arg7 c16_i32_91
  let v182 : Index := Scalar.indexCast v180
  ![1, v182.toNat]
def k0_off3 (k0_t1 : Fin k0_t1_loop.trips) : Fin 2 → Nat :=
  let c2_i32_95 : BitVec 32 := 2#32
  let v188 : Index := Scalar.indexCast c2_i32_95
  let c0_i32_11 : BitVec 32 := 0#32
  let c1_i32_12 : BitVec 32 := 1#32
  let arg7 : BitVec 32 := Scf.iv c0_i32_11 c1_i32_12 k0_t1
  let c16_i32_94 : BitVec 32 := 16#32
  let v187 : BitVec 32 := Scalar.muli arg7 c16_i32_94
  let v189 : Index := Scalar.indexCast v187
  ![2, v189.toNat]
def k0_off4 (k0_t1 : Fin k0_t1_loop.trips) : Fin 2 → Nat :=
  let c3_i32_98 : BitVec 32 := 3#32
  let v195 : Index := Scalar.indexCast c3_i32_98
  let c0_i32_11 : BitVec 32 := 0#32
  let c1_i32_12 : BitVec 32 := 1#32
  let arg7 : BitVec 32 := Scf.iv c0_i32_11 c1_i32_12 k0_t1
  let c16_i32_97 : BitVec 32 := 16#32
  let v194 : BitVec 32 := Scalar.muli arg7 c16_i32_97
  let v196 : Index := Scalar.indexCast v194
  ![3, v196.toNat]
def k0_off5 (k0_t1 : Fin k0_t1_loop.trips) : Fin 2 → Nat :=
  let c4_i32_101 : BitVec 32 := 4#32
  let v202 : Index := Scalar.indexCast c4_i32_101
  let c0_i32_11 : BitVec 32 := 0#32
  let c1_i32_12 : BitVec 32 := 1#32
  let arg7 : BitVec 32 := Scf.iv c0_i32_11 c1_i32_12 k0_t1
  let c16_i32_100 : BitVec 32 := 16#32
  let v201 : BitVec 32 := Scalar.muli arg7 c16_i32_100
  let v203 : Index := Scalar.indexCast v201
  ![4, v203.toNat]
def k0_off6 (k0_t1 : Fin k0_t1_loop.trips) : Fin 2 → Nat :=
  let c5_i32_104 : BitVec 32 := 5#32
  let v209 : Index := Scalar.indexCast c5_i32_104
  let c0_i32_11 : BitVec 32 := 0#32
  let c1_i32_12 : BitVec 32 := 1#32
  let arg7 : BitVec 32 := Scf.iv c0_i32_11 c1_i32_12 k0_t1
  let c16_i32_103 : BitVec 32 := 16#32
  let v208 : BitVec 32 := Scalar.muli arg7 c16_i32_103
  let v210 : Index := Scalar.indexCast v208
  ![5, v210.toNat]
def k0_off7 (k0_t1 : Fin k0_t1_loop.trips) : Fin 2 → Nat :=
  let c6_i32_107 : BitVec 32 := 6#32
  let v216 : Index := Scalar.indexCast c6_i32_107
  let c0_i32_11 : BitVec 32 := 0#32
  let c1_i32_12 : BitVec 32 := 1#32
  let arg7 : BitVec 32 := Scf.iv c0_i32_11 c1_i32_12 k0_t1
  let c16_i32_106 : BitVec 32 := 16#32
  let v215 : BitVec 32 := Scalar.muli arg7 c16_i32_106
  let v217 : Index := Scalar.indexCast v215
  ![6, v217.toNat]
def k0_off8 (k0_t1 : Fin k0_t1_loop.trips) : Fin 2 → Nat :=
  let c7_i32_110 : BitVec 32 := 7#32
  let v223 : Index := Scalar.indexCast c7_i32_110
  let c0_i32_11 : BitVec 32 := 0#32
  let c1_i32_12 : BitVec 32 := 1#32
  let arg7 : BitVec 32 := Scf.iv c0_i32_11 c1_i32_12 k0_t1
  let c16_i32_109 : BitVec 32 := 16#32
  let v222 : BitVec 32 := Scalar.muli arg7 c16_i32_109
  let v224 : Index := Scalar.indexCast v222
  ![7, v224.toNat]
def k0_off9 (k0_t1 : Fin k0_t1_loop.trips) : Fin 2 → Nat :=
  let c8_i32_113 : BitVec 32 := 8#32
  let v230 : Index := Scalar.indexCast c8_i32_113
  let c0_i32_11 : BitVec 32 := 0#32
  let c1_i32_12 : BitVec 32 := 1#32
  let arg7 : BitVec 32 := Scf.iv c0_i32_11 c1_i32_12 k0_t1
  let c16_i32_112 : BitVec 32 := 16#32
  let v229 : BitVec 32 := Scalar.muli arg7 c16_i32_112
  let v231 : Index := Scalar.indexCast v229
  ![8, v231.toNat]
def k0_off10 (k0_t1 : Fin k0_t1_loop.trips) : Fin 2 → Nat :=
  let c9_i32 : BitVec 32 := 9#32
  let v237 : Index := Scalar.indexCast c9_i32
  let c0_i32_11 : BitVec 32 := 0#32
  let c1_i32_12 : BitVec 32 := 1#32
  let arg7 : BitVec 32 := Scf.iv c0_i32_11 c1_i32_12 k0_t1
  let c16_i32_115 : BitVec 32 := 16#32
  let v236 : BitVec 32 := Scalar.muli arg7 c16_i32_115
  let v238 : Index := Scalar.indexCast v236
  ![9, v238.toNat]
def k0_off11 (k0_t1 : Fin k0_t1_loop.trips) : Fin 2 → Nat :=
  let c10_i32 : BitVec 32 := 10#32
  let v244 : Index := Scalar.indexCast c10_i32
  let c0_i32_11 : BitVec 32 := 0#32
  let c1_i32_12 : BitVec 32 := 1#32
  let arg7 : BitVec 32 := Scf.iv c0_i32_11 c1_i32_12 k0_t1
  let c16_i32_117 : BitVec 32 := 16#32
  let v243 : BitVec 32 := Scalar.muli arg7 c16_i32_117
  let v245 : Index := Scalar.indexCast v243
  ![10, v245.toNat]
def k0_off12 (k0_t1 : Fin k0_t1_loop.trips) : Fin 2 → Nat :=
  let c11_i32 : BitVec 32 := 11#32
  let v251 : Index := Scalar.indexCast c11_i32
  let c0_i32_11 : BitVec 32 := 0#32
  let c1_i32_12 : BitVec 32 := 1#32
  let arg7 : BitVec 32 := Scf.iv c0_i32_11 c1_i32_12 k0_t1
  let c16_i32_119 : BitVec 32 := 16#32
  let v250 : BitVec 32 := Scalar.muli arg7 c16_i32_119
  let v252 : Index := Scalar.indexCast v250
  ![11, v252.toNat]
def k0_off13 (k0_t1 : Fin k0_t1_loop.trips) : Fin 2 → Nat :=
  let c12_i32 : BitVec 32 := 12#32
  let v258 : Index := Scalar.indexCast c12_i32
  let c0_i32_11 : BitVec 32 := 0#32
  let c1_i32_12 : BitVec 32 := 1#32
  let arg7 : BitVec 32 := Scf.iv c0_i32_11 c1_i32_12 k0_t1
  let c16_i32_121 : BitVec 32 := 16#32
  let v257 : BitVec 32 := Scalar.muli arg7 c16_i32_121
  let v259 : Index := Scalar.indexCast v257
  ![12, v259.toNat]
def k0_off14 (k0_t1 : Fin k0_t1_loop.trips) : Fin 2 → Nat :=
  let c13_i32 : BitVec 32 := 13#32
  let v265 : Index := Scalar.indexCast c13_i32
  let c0_i32_11 : BitVec 32 := 0#32
  let c1_i32_12 : BitVec 32 := 1#32
  let arg7 : BitVec 32 := Scf.iv c0_i32_11 c1_i32_12 k0_t1
  let c16_i32_123 : BitVec 32 := 16#32
  let v264 : BitVec 32 := Scalar.muli arg7 c16_i32_123
  let v266 : Index := Scalar.indexCast v264
  ![13, v266.toNat]
def k0_off15 (k0_t1 : Fin k0_t1_loop.trips) : Fin 2 → Nat :=
  let c14_i32 : BitVec 32 := 14#32
  let v272 : Index := Scalar.indexCast c14_i32
  let c0_i32_11 : BitVec 32 := 0#32
  let c1_i32_12 : BitVec 32 := 1#32
  let arg7 : BitVec 32 := Scf.iv c0_i32_11 c1_i32_12 k0_t1
  let c16_i32_125 : BitVec 32 := 16#32
  let v271 : BitVec 32 := Scalar.muli arg7 c16_i32_125
  let v273 : Index := Scalar.indexCast v271
  ![14, v273.toNat]
def k0_off16 (k0_t1 : Fin k0_t1_loop.trips) : Fin 2 → Nat :=
  let c15_i32 : BitVec 32 := 15#32
  let v279 : Index := Scalar.indexCast c15_i32
  let c0_i32_11 : BitVec 32 := 0#32
  let c1_i32_12 : BitVec 32 := 1#32
  let arg7 : BitVec 32 := Scf.iv c0_i32_11 c1_i32_12 k0_t1
  let c16_i32_127 : BitVec 32 := 16#32
  let v278 : BitVec 32 := Scalar.muli arg7 c16_i32_127
  let v280 : Index := Scalar.indexCast v278
  ![15, v280.toNat]
def k0_off17 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_43 : BitVec 32 := 512#32
  let v105 : BitVec 32 := Scalar.muli v1 c512_i32_43
  let c0_i32_44 : BitVec 32 := 0#32
  let v106 : BitVec 32 := Scalar.addi v105 c0_i32_44
  let c0_i32_89_r1 : BitVec 32 := 0#32
  ![v106.toNat, 0]
def k0_off18 (i : grid0.Coords) (v34 : BitVec 32) (v36 : BitVec 32) (v38 : BitVec 32) (v40 : BitVec 32) (v42 : BitVec 32) (v44 : BitVec 32) (v46 : BitVec 32) (v48 : BitVec 32) (v50 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c8_i32 : BitVec 32 := 8#32
  let v91 : BitVec 1 := Scalar.cmpi .eq v18 c8_i32
  let c7_i32 : BitVec 32 := 7#32
  let v86 : BitVec 1 := Scalar.cmpi .eq v18 c7_i32
  let c6_i32 : BitVec 32 := 6#32
  let v81 : BitVec 1 := Scalar.cmpi .eq v18 c6_i32
  let c5_i32 : BitVec 32 := 5#32
  let v76 : BitVec 1 := Scalar.cmpi .eq v18 c5_i32
  let c4_i32_27 : BitVec 32 := 4#32
  let v71 : BitVec 1 := Scalar.cmpi .eq v18 c4_i32_27
  let c3_i32 : BitVec 32 := 3#32
  let v66 : BitVec 1 := Scalar.cmpi .eq v18 c3_i32
  let c2_i32_22 : BitVec 32 := 2#32
  let v61 : BitVec 1 := Scalar.cmpi .eq v18 c2_i32_22
  let c1_i32_19 : BitVec 32 := 1#32
  let v56 : BitVec 1 := Scalar.cmpi .eq v18 c1_i32_19
  let c0_i32_14 : BitVec 32 := 0#32
  let v51 : BitVec 1 := Scalar.cmpi .eq v18 c0_i32_14
  let c0_i32_15 : BitVec 32 := 0#32
  let v52 : BitVec 32 := Scalar.select v51 v34 c0_i32_15
  let v57 : BitVec 32 := Scalar.select v56 v36 v52
  let v62 : BitVec 32 := Scalar.select v61 v38 v57
  let v67 : BitVec 32 := Scalar.select v66 v40 v62
  let v72 : BitVec 32 := Scalar.select v71 v42 v67
  let v77 : BitVec 32 := Scalar.select v76 v44 v72
  let v82 : BitVec 32 := Scalar.select v81 v46 v77
  let v87 : BitVec 32 := Scalar.select v86 v48 v82
  let v92 : BitVec 32 := Scalar.select v91 v50 v87
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v103 : BitVec 32 := Scalar.addi v92 v29
  let c0_i32_42 : BitVec 32 := 0#32
  let v104 : BitVec 32 := Scalar.addi v103 c0_i32_42
  let c0_i32_90_r1 : BitVec 32 := 0#32
  ![v104.toNat, 0]
def k0_cond1 (i : grid0.Coords) (v34 : BitVec 32) (v36 : BitVec 32) (v38 : BitVec 32) (v40 : BitVec 32) (v42 : BitVec 32) (v44 : BitVec 32) (v46 : BitVec 32) (v48 : BitVec 32) (v50 : BitVec 32) : BitVec 1 :=
  let c128_i32 : BitVec 32 := 128#32
  let c0_i32_41 : BitVec 32 := 0#32
  let c512_i32_39 : BitVec 32 := 512#32
  let c0_i32_38 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c1_i32_36 : BitVec 32 := 1#32
  let v93 : BitVec 32 := Scalar.addi v18 c1_i32_36
  let c8_i32_37 : BitVec 32 := 8#32
  let v94 : BitVec 1 := Scalar.cmpi .eq v93 c8_i32_37
  let c1_i32_34 : BitVec 32 := 1#32
  let v88 : BitVec 32 := Scalar.addi v18 c1_i32_34
  let c7_i32_35 : BitVec 32 := 7#32
  let v89 : BitVec 1 := Scalar.cmpi .eq v88 c7_i32_35
  let c1_i32_32 : BitVec 32 := 1#32
  let v83 : BitVec 32 := Scalar.addi v18 c1_i32_32
  let c6_i32_33 : BitVec 32 := 6#32
  let v84 : BitVec 1 := Scalar.cmpi .eq v83 c6_i32_33
  let c1_i32_30 : BitVec 32 := 1#32
  let v78 : BitVec 32 := Scalar.addi v18 c1_i32_30
  let c5_i32_31 : BitVec 32 := 5#32
  let v79 : BitVec 1 := Scalar.cmpi .eq v78 c5_i32_31
  let c1_i32_28 : BitVec 32 := 1#32
  let v73 : BitVec 32 := Scalar.addi v18 c1_i32_28
  let c4_i32_29 : BitVec 32 := 4#32
  let v74 : BitVec 1 := Scalar.cmpi .eq v73 c4_i32_29
  let c1_i32_25 : BitVec 32 := 1#32
  let v68 : BitVec 32 := Scalar.addi v18 c1_i32_25
  let c3_i32_26 : BitVec 32 := 3#32
  let v69 : BitVec 1 := Scalar.cmpi .eq v68 c3_i32_26
  let c1_i32_23 : BitVec 32 := 1#32
  let v63 : BitVec 32 := Scalar.addi v18 c1_i32_23
  let c2_i32_24 : BitVec 32 := 2#32
  let v64 : BitVec 1 := Scalar.cmpi .eq v63 c2_i32_24
  let c1_i32_20 : BitVec 32 := 1#32
  let v58 : BitVec 32 := Scalar.addi v18 c1_i32_20
  let c1_i32_21 : BitVec 32 := 1#32
  let v59 : BitVec 1 := Scalar.cmpi .eq v58 c1_i32_21
  let c1_i32_16 : BitVec 32 := 1#32
  let v53 : BitVec 32 := Scalar.addi v18 c1_i32_16
  let c0_i32_17 : BitVec 32 := 0#32
  let v54 : BitVec 1 := Scalar.cmpi .eq v53 c0_i32_17
  let c0_i32_18 : BitVec 32 := 0#32
  let v55 : BitVec 32 := Scalar.select v54 v34 c0_i32_18
  let v60 : BitVec 32 := Scalar.select v59 v36 v55
  let v65 : BitVec 32 := Scalar.select v64 v38 v60
  let v70 : BitVec 32 := Scalar.select v69 v40 v65
  let v75 : BitVec 32 := Scalar.select v74 v42 v70
  let v80 : BitVec 32 := Scalar.select v79 v44 v75
  let v85 : BitVec 32 := Scalar.select v84 v46 v80
  let v90 : BitVec 32 := Scalar.select v89 v48 v85
  let v95 : BitVec 32 := Scalar.select v94 v50 v90
  let c8_i32 : BitVec 32 := 8#32
  let v91 : BitVec 1 := Scalar.cmpi .eq v18 c8_i32
  let c7_i32 : BitVec 32 := 7#32
  let v86 : BitVec 1 := Scalar.cmpi .eq v18 c7_i32
  let c6_i32 : BitVec 32 := 6#32
  let v81 : BitVec 1 := Scalar.cmpi .eq v18 c6_i32
  let c5_i32 : BitVec 32 := 5#32
  let v76 : BitVec 1 := Scalar.cmpi .eq v18 c5_i32
  let c4_i32_27 : BitVec 32 := 4#32
  let v71 : BitVec 1 := Scalar.cmpi .eq v18 c4_i32_27
  let c3_i32 : BitVec 32 := 3#32
  let v66 : BitVec 1 := Scalar.cmpi .eq v18 c3_i32
  let c2_i32_22 : BitVec 32 := 2#32
  let v61 : BitVec 1 := Scalar.cmpi .eq v18 c2_i32_22
  let c1_i32_19 : BitVec 32 := 1#32
  let v56 : BitVec 1 := Scalar.cmpi .eq v18 c1_i32_19
  let c0_i32_14 : BitVec 32 := 0#32
  let v51 : BitVec 1 := Scalar.cmpi .eq v18 c0_i32_14
  let c0_i32_15 : BitVec 32 := 0#32
  let v52 : BitVec 32 := Scalar.select v51 v34 c0_i32_15
  let v57 : BitVec 32 := Scalar.select v56 v36 v52
  let v62 : BitVec 32 := Scalar.select v61 v38 v57
  let v67 : BitVec 32 := Scalar.select v66 v40 v62
  let v72 : BitVec 32 := Scalar.select v71 v42 v67
  let v77 : BitVec 32 := Scalar.select v76 v44 v72
  let v82 : BitVec 32 := Scalar.select v81 v46 v77
  let v87 : BitVec 32 := Scalar.select v86 v48 v82
  let v92 : BitVec 32 := Scalar.select v91 v50 v87
  let v96 : BitVec 32 := Scalar.subi v95 v92
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v97 : BitVec 32 := Scalar.subi v96 v29
  let v98 : BitVec 32 := Scalar.maxsi c0_i32_38 v97
  let v99 : BitVec 32 := Scalar.minsi c512_i32_39 v98
  let c0_i32_40 : BitVec 32 := 0#32
  let v100 : BitVec 32 := Scalar.subi v99 c0_i32_40
  let v101 : BitVec 32 := Scalar.maxsi c0_i32_41 v100
  let v102 : BitVec 32 := Scalar.minsi c128_i32 v101
  let c128_i32_45 : BitVec 32 := 128#32
  let v107 : BitVec 1 := Scalar.cmpi .eq v102 c128_i32_45
  let v108 : BitVec 32 := Scalar.extui v107
  let c0_i32_46 : BitVec 32 := 0#32
  let v109 : BitVec 1 := Scalar.cmpi .ne v108 c0_i32_46
  v109

def k0_off19 (i : grid0.Coords) (c0_i32_89 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_43 : BitVec 32 := 512#32
  let v105 : BitVec 32 := Scalar.muli v1 c512_i32_43
  let c0_i32_44 : BitVec 32 := 0#32
  let v106 : BitVec 32 := Scalar.addi v105 c0_i32_44
  let v172 : BitVec 32 := Scalar.addi v106 c0_i32_89
  let c0_i32_91_r2 : BitVec 32 := 0#32
  ![v172.toNat, 0]
@[reducible] def k0_t2_loop : Scf.Loop 32 :=
  let c0_i32_90 : BitVec 32 := 0#32
  let c128_i32_91 : BitVec 32 := 128#32
  let v172 : BitVec 32 := Scalar.addi c0_i32_90 c128_i32_91
  let c1_i32_92 : BitVec 32 := 1#32
  ⟨c0_i32_90, v172, c1_i32_92⟩
def k0_off20 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_43 : BitVec 32 := 512#32
  let v105 : BitVec 32 := Scalar.muli v1 c512_i32_43
  let c0_i32_44 : BitVec 32 := 0#32
  let v106 : BitVec 32 := Scalar.addi v105 c0_i32_44
  let c0_i32_90 : BitVec 32 := 0#32
  let c1_i32_92 : BitVec 32 := 1#32
  let arg7 : BitVec 32 := Scf.iv c0_i32_90 c1_i32_92 k0_t2
  let v180 : BitVec 32 := Scalar.addi v106 arg7
  let c0_i32_96_r10 : BitVec 32 := 0#32
  ![v180.toNat, 0]
def k0_off21 (i : grid0.Coords) (v34 : BitVec 32) (v36 : BitVec 32) (v38 : BitVec 32) (v40 : BitVec 32) (v42 : BitVec 32) (v44 : BitVec 32) (v46 : BitVec 32) (v48 : BitVec 32) (v50 : BitVec 32) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c8_i32 : BitVec 32 := 8#32
  let v91 : BitVec 1 := Scalar.cmpi .eq v18 c8_i32
  let c7_i32 : BitVec 32 := 7#32
  let v86 : BitVec 1 := Scalar.cmpi .eq v18 c7_i32
  let c6_i32 : BitVec 32 := 6#32
  let v81 : BitVec 1 := Scalar.cmpi .eq v18 c6_i32
  let c5_i32 : BitVec 32 := 5#32
  let v76 : BitVec 1 := Scalar.cmpi .eq v18 c5_i32
  let c4_i32_27 : BitVec 32 := 4#32
  let v71 : BitVec 1 := Scalar.cmpi .eq v18 c4_i32_27
  let c3_i32 : BitVec 32 := 3#32
  let v66 : BitVec 1 := Scalar.cmpi .eq v18 c3_i32
  let c2_i32_22 : BitVec 32 := 2#32
  let v61 : BitVec 1 := Scalar.cmpi .eq v18 c2_i32_22
  let c1_i32_19 : BitVec 32 := 1#32
  let v56 : BitVec 1 := Scalar.cmpi .eq v18 c1_i32_19
  let c0_i32_14 : BitVec 32 := 0#32
  let v51 : BitVec 1 := Scalar.cmpi .eq v18 c0_i32_14
  let c0_i32_15 : BitVec 32 := 0#32
  let v52 : BitVec 32 := Scalar.select v51 v34 c0_i32_15
  let v57 : BitVec 32 := Scalar.select v56 v36 v52
  let v62 : BitVec 32 := Scalar.select v61 v38 v57
  let v67 : BitVec 32 := Scalar.select v66 v40 v62
  let v72 : BitVec 32 := Scalar.select v71 v42 v67
  let v77 : BitVec 32 := Scalar.select v76 v44 v72
  let v82 : BitVec 32 := Scalar.select v81 v46 v77
  let v87 : BitVec 32 := Scalar.select v86 v48 v82
  let v92 : BitVec 32 := Scalar.select v91 v50 v87
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v103 : BitVec 32 := Scalar.addi v92 v29
  let c0_i32_42 : BitVec 32 := 0#32
  let v104 : BitVec 32 := Scalar.addi v103 c0_i32_42
  let c0_i32_90 : BitVec 32 := 0#32
  let c1_i32_92 : BitVec 32 := 1#32
  let arg7 : BitVec 32 := Scf.iv c0_i32_90 c1_i32_92 k0_t2
  let v179 : BitVec 32 := Scalar.addi v104 arg7
  let c0_i32_97_r10 : BitVec 32 := 0#32
  ![v179.toNat, 0]
def k0_cond3 (i : grid0.Coords) (v34 : BitVec 32) (v36 : BitVec 32) (v38 : BitVec 32) (v40 : BitVec 32) (v42 : BitVec 32) (v44 : BitVec 32) (v46 : BitVec 32) (v48 : BitVec 32) (v50 : BitVec 32) : BitVec 1 :=
  let c128_i32 : BitVec 32 := 128#32
  let c0_i32_41 : BitVec 32 := 0#32
  let c512_i32_39 : BitVec 32 := 512#32
  let c0_i32_38 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c1_i32_36 : BitVec 32 := 1#32
  let v93 : BitVec 32 := Scalar.addi v18 c1_i32_36
  let c8_i32_37 : BitVec 32 := 8#32
  let v94 : BitVec 1 := Scalar.cmpi .eq v93 c8_i32_37
  let c1_i32_34 : BitVec 32 := 1#32
  let v88 : BitVec 32 := Scalar.addi v18 c1_i32_34
  let c7_i32_35 : BitVec 32 := 7#32
  let v89 : BitVec 1 := Scalar.cmpi .eq v88 c7_i32_35
  let c1_i32_32 : BitVec 32 := 1#32
  let v83 : BitVec 32 := Scalar.addi v18 c1_i32_32
  let c6_i32_33 : BitVec 32 := 6#32
  let v84 : BitVec 1 := Scalar.cmpi .eq v83 c6_i32_33
  let c1_i32_30 : BitVec 32 := 1#32
  let v78 : BitVec 32 := Scalar.addi v18 c1_i32_30
  let c5_i32_31 : BitVec 32 := 5#32
  let v79 : BitVec 1 := Scalar.cmpi .eq v78 c5_i32_31
  let c1_i32_28 : BitVec 32 := 1#32
  let v73 : BitVec 32 := Scalar.addi v18 c1_i32_28
  let c4_i32_29 : BitVec 32 := 4#32
  let v74 : BitVec 1 := Scalar.cmpi .eq v73 c4_i32_29
  let c1_i32_25 : BitVec 32 := 1#32
  let v68 : BitVec 32 := Scalar.addi v18 c1_i32_25
  let c3_i32_26 : BitVec 32 := 3#32
  let v69 : BitVec 1 := Scalar.cmpi .eq v68 c3_i32_26
  let c1_i32_23 : BitVec 32 := 1#32
  let v63 : BitVec 32 := Scalar.addi v18 c1_i32_23
  let c2_i32_24 : BitVec 32 := 2#32
  let v64 : BitVec 1 := Scalar.cmpi .eq v63 c2_i32_24
  let c1_i32_20 : BitVec 32 := 1#32
  let v58 : BitVec 32 := Scalar.addi v18 c1_i32_20
  let c1_i32_21 : BitVec 32 := 1#32
  let v59 : BitVec 1 := Scalar.cmpi .eq v58 c1_i32_21
  let c1_i32_16 : BitVec 32 := 1#32
  let v53 : BitVec 32 := Scalar.addi v18 c1_i32_16
  let c0_i32_17 : BitVec 32 := 0#32
  let v54 : BitVec 1 := Scalar.cmpi .eq v53 c0_i32_17
  let c0_i32_18 : BitVec 32 := 0#32
  let v55 : BitVec 32 := Scalar.select v54 v34 c0_i32_18
  let v60 : BitVec 32 := Scalar.select v59 v36 v55
  let v65 : BitVec 32 := Scalar.select v64 v38 v60
  let v70 : BitVec 32 := Scalar.select v69 v40 v65
  let v75 : BitVec 32 := Scalar.select v74 v42 v70
  let v80 : BitVec 32 := Scalar.select v79 v44 v75
  let v85 : BitVec 32 := Scalar.select v84 v46 v80
  let v90 : BitVec 32 := Scalar.select v89 v48 v85
  let v95 : BitVec 32 := Scalar.select v94 v50 v90
  let c8_i32 : BitVec 32 := 8#32
  let v91 : BitVec 1 := Scalar.cmpi .eq v18 c8_i32
  let c7_i32 : BitVec 32 := 7#32
  let v86 : BitVec 1 := Scalar.cmpi .eq v18 c7_i32
  let c6_i32 : BitVec 32 := 6#32
  let v81 : BitVec 1 := Scalar.cmpi .eq v18 c6_i32
  let c5_i32 : BitVec 32 := 5#32
  let v76 : BitVec 1 := Scalar.cmpi .eq v18 c5_i32
  let c4_i32_27 : BitVec 32 := 4#32
  let v71 : BitVec 1 := Scalar.cmpi .eq v18 c4_i32_27
  let c3_i32 : BitVec 32 := 3#32
  let v66 : BitVec 1 := Scalar.cmpi .eq v18 c3_i32
  let c2_i32_22 : BitVec 32 := 2#32
  let v61 : BitVec 1 := Scalar.cmpi .eq v18 c2_i32_22
  let c1_i32_19 : BitVec 32 := 1#32
  let v56 : BitVec 1 := Scalar.cmpi .eq v18 c1_i32_19
  let c0_i32_14 : BitVec 32 := 0#32
  let v51 : BitVec 1 := Scalar.cmpi .eq v18 c0_i32_14
  let c0_i32_15 : BitVec 32 := 0#32
  let v52 : BitVec 32 := Scalar.select v51 v34 c0_i32_15
  let v57 : BitVec 32 := Scalar.select v56 v36 v52
  let v62 : BitVec 32 := Scalar.select v61 v38 v57
  let v67 : BitVec 32 := Scalar.select v66 v40 v62
  let v72 : BitVec 32 := Scalar.select v71 v42 v67
  let v77 : BitVec 32 := Scalar.select v76 v44 v72
  let v82 : BitVec 32 := Scalar.select v81 v46 v77
  let v87 : BitVec 32 := Scalar.select v86 v48 v82
  let v92 : BitVec 32 := Scalar.select v91 v50 v87
  let v96 : BitVec 32 := Scalar.subi v95 v92
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v97 : BitVec 32 := Scalar.subi v96 v29
  let v98 : BitVec 32 := Scalar.maxsi c0_i32_38 v97
  let v99 : BitVec 32 := Scalar.minsi c512_i32_39 v98
  let c0_i32_40 : BitVec 32 := 0#32
  let v100 : BitVec 32 := Scalar.subi v99 c0_i32_40
  let v101 : BitVec 32 := Scalar.maxsi c0_i32_41 v100
  let v102 : BitVec 32 := Scalar.minsi c128_i32 v101
  let c0_i32_49 : BitVec 32 := 0#32
  let v113 : BitVec 1 := Scalar.cmpi .sgt v102 c0_i32_49
  let c128_i32_50 : BitVec 32 := 128#32
  let v114 : BitVec 1 := Scalar.cmpi .slt v102 c128_i32_50
  let v115 : BitVec 1 := Scalar.andi v113 v114
  let v116 : BitVec 32 := Scalar.extui v115
  let c0_i32_51 : BitVec 32 := 0#32
  let v117 : BitVec 1 := Scalar.cmpi .ne v116 c0_i32_51
  v117

def k0_cond4 (i : grid0.Coords) (v34 : BitVec 32) (v36 : BitVec 32) (v38 : BitVec 32) (v40 : BitVec 32) (v42 : BitVec 32) (v44 : BitVec 32) (v46 : BitVec 32) (v48 : BitVec 32) (v50 : BitVec 32) (k0_t2 : Fin k0_t2_loop.trips) : BitVec 1 :=
  let c0_i32_90 : BitVec 32 := 0#32
  let c1_i32_92 : BitVec 32 := 1#32
  let arg7 : BitVec 32 := Scf.iv c0_i32_90 c1_i32_92 k0_t2
  let c128_i32 : BitVec 32 := 128#32
  let c0_i32_41 : BitVec 32 := 0#32
  let c512_i32_39 : BitVec 32 := 512#32
  let c0_i32_38 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c1_i32_36 : BitVec 32 := 1#32
  let v93 : BitVec 32 := Scalar.addi v18 c1_i32_36
  let c8_i32_37 : BitVec 32 := 8#32
  let v94 : BitVec 1 := Scalar.cmpi .eq v93 c8_i32_37
  let c1_i32_34 : BitVec 32 := 1#32
  let v88 : BitVec 32 := Scalar.addi v18 c1_i32_34
  let c7_i32_35 : BitVec 32 := 7#32
  let v89 : BitVec 1 := Scalar.cmpi .eq v88 c7_i32_35
  let c1_i32_32 : BitVec 32 := 1#32
  let v83 : BitVec 32 := Scalar.addi v18 c1_i32_32
  let c6_i32_33 : BitVec 32 := 6#32
  let v84 : BitVec 1 := Scalar.cmpi .eq v83 c6_i32_33
  let c1_i32_30 : BitVec 32 := 1#32
  let v78 : BitVec 32 := Scalar.addi v18 c1_i32_30
  let c5_i32_31 : BitVec 32 := 5#32
  let v79 : BitVec 1 := Scalar.cmpi .eq v78 c5_i32_31
  let c1_i32_28 : BitVec 32 := 1#32
  let v73 : BitVec 32 := Scalar.addi v18 c1_i32_28
  let c4_i32_29 : BitVec 32 := 4#32
  let v74 : BitVec 1 := Scalar.cmpi .eq v73 c4_i32_29
  let c1_i32_25 : BitVec 32 := 1#32
  let v68 : BitVec 32 := Scalar.addi v18 c1_i32_25
  let c3_i32_26 : BitVec 32 := 3#32
  let v69 : BitVec 1 := Scalar.cmpi .eq v68 c3_i32_26
  let c1_i32_23 : BitVec 32 := 1#32
  let v63 : BitVec 32 := Scalar.addi v18 c1_i32_23
  let c2_i32_24 : BitVec 32 := 2#32
  let v64 : BitVec 1 := Scalar.cmpi .eq v63 c2_i32_24
  let c1_i32_20 : BitVec 32 := 1#32
  let v58 : BitVec 32 := Scalar.addi v18 c1_i32_20
  let c1_i32_21 : BitVec 32 := 1#32
  let v59 : BitVec 1 := Scalar.cmpi .eq v58 c1_i32_21
  let c1_i32_16 : BitVec 32 := 1#32
  let v53 : BitVec 32 := Scalar.addi v18 c1_i32_16
  let c0_i32_17 : BitVec 32 := 0#32
  let v54 : BitVec 1 := Scalar.cmpi .eq v53 c0_i32_17
  let c0_i32_18 : BitVec 32 := 0#32
  let v55 : BitVec 32 := Scalar.select v54 v34 c0_i32_18
  let v60 : BitVec 32 := Scalar.select v59 v36 v55
  let v65 : BitVec 32 := Scalar.select v64 v38 v60
  let v70 : BitVec 32 := Scalar.select v69 v40 v65
  let v75 : BitVec 32 := Scalar.select v74 v42 v70
  let v80 : BitVec 32 := Scalar.select v79 v44 v75
  let v85 : BitVec 32 := Scalar.select v84 v46 v80
  let v90 : BitVec 32 := Scalar.select v89 v48 v85
  let v95 : BitVec 32 := Scalar.select v94 v50 v90
  let c8_i32 : BitVec 32 := 8#32
  let v91 : BitVec 1 := Scalar.cmpi .eq v18 c8_i32
  let c7_i32 : BitVec 32 := 7#32
  let v86 : BitVec 1 := Scalar.cmpi .eq v18 c7_i32
  let c6_i32 : BitVec 32 := 6#32
  let v81 : BitVec 1 := Scalar.cmpi .eq v18 c6_i32
  let c5_i32 : BitVec 32 := 5#32
  let v76 : BitVec 1 := Scalar.cmpi .eq v18 c5_i32
  let c4_i32_27 : BitVec 32 := 4#32
  let v71 : BitVec 1 := Scalar.cmpi .eq v18 c4_i32_27
  let c3_i32 : BitVec 32 := 3#32
  let v66 : BitVec 1 := Scalar.cmpi .eq v18 c3_i32
  let c2_i32_22 : BitVec 32 := 2#32
  let v61 : BitVec 1 := Scalar.cmpi .eq v18 c2_i32_22
  let c1_i32_19 : BitVec 32 := 1#32
  let v56 : BitVec 1 := Scalar.cmpi .eq v18 c1_i32_19
  let c0_i32_14 : BitVec 32 := 0#32
  let v51 : BitVec 1 := Scalar.cmpi .eq v18 c0_i32_14
  let c0_i32_15 : BitVec 32 := 0#32
  let v52 : BitVec 32 := Scalar.select v51 v34 c0_i32_15
  let v57 : BitVec 32 := Scalar.select v56 v36 v52
  let v62 : BitVec 32 := Scalar.select v61 v38 v57
  let v67 : BitVec 32 := Scalar.select v66 v40 v62
  let v72 : BitVec 32 := Scalar.select v71 v42 v67
  let v77 : BitVec 32 := Scalar.select v76 v44 v72
  let v82 : BitVec 32 := Scalar.select v81 v46 v77
  let v87 : BitVec 32 := Scalar.select v86 v48 v82
  let v92 : BitVec 32 := Scalar.select v91 v50 v87
  let v96 : BitVec 32 := Scalar.subi v95 v92
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v97 : BitVec 32 := Scalar.subi v96 v29
  let v98 : BitVec 32 := Scalar.maxsi c0_i32_38 v97
  let v99 : BitVec 32 := Scalar.minsi c512_i32_39 v98
  let c0_i32_40 : BitVec 32 := 0#32
  let v100 : BitVec 32 := Scalar.subi v99 c0_i32_40
  let v101 : BitVec 32 := Scalar.maxsi c0_i32_41 v100
  let v102 : BitVec 32 := Scalar.minsi c128_i32 v101
  let v173 : BitVec 1 := Scalar.cmpi .slt arg7 v102
  let v174 : BitVec 32 := Scalar.extui v173
  let c0_i32_94 : BitVec 32 := 0#32
  let v175 : BitVec 1 := Scalar.cmpi .ne v174 c0_i32_94
  v175

def k0_off22 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_43 : BitVec 32 := 512#32
  let v105 : BitVec 32 := Scalar.muli v1 c512_i32_43
  let c0_i32_44 : BitVec 32 := 0#32
  let v106 : BitVec 32 := Scalar.addi v105 c0_i32_44
  let c0_i32_90 : BitVec 32 := 0#32
  let c1_i32_92 : BitVec 32 := 1#32
  let arg7 : BitVec 32 := Scf.iv c0_i32_90 c1_i32_92 k0_t2
  let v179 : BitVec 32 := Scalar.addi v106 arg7
  let c0_i32_98_r11 : BitVec 32 := 0#32
  ![v179.toNat, 0]
def k0_off23 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_56 : BitVec 32 := 512#32
  let v123 : BitVec 32 := Scalar.muli v1 c512_i32_56
  let c128_i32_57 : BitVec 32 := 128#32
  let v124 : BitVec 32 := Scalar.addi v123 c128_i32_57
  let c0_i32_89_r12 : BitVec 32 := 0#32
  ![v124.toNat, 0]
def k0_off24 (i : grid0.Coords) (v34 : BitVec 32) (v36 : BitVec 32) (v38 : BitVec 32) (v40 : BitVec 32) (v42 : BitVec 32) (v44 : BitVec 32) (v46 : BitVec 32) (v48 : BitVec 32) (v50 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c8_i32 : BitVec 32 := 8#32
  let v91 : BitVec 1 := Scalar.cmpi .eq v18 c8_i32
  let c7_i32 : BitVec 32 := 7#32
  let v86 : BitVec 1 := Scalar.cmpi .eq v18 c7_i32
  let c6_i32 : BitVec 32 := 6#32
  let v81 : BitVec 1 := Scalar.cmpi .eq v18 c6_i32
  let c5_i32 : BitVec 32 := 5#32
  let v76 : BitVec 1 := Scalar.cmpi .eq v18 c5_i32
  let c4_i32_27 : BitVec 32 := 4#32
  let v71 : BitVec 1 := Scalar.cmpi .eq v18 c4_i32_27
  let c3_i32 : BitVec 32 := 3#32
  let v66 : BitVec 1 := Scalar.cmpi .eq v18 c3_i32
  let c2_i32_22 : BitVec 32 := 2#32
  let v61 : BitVec 1 := Scalar.cmpi .eq v18 c2_i32_22
  let c1_i32_19 : BitVec 32 := 1#32
  let v56 : BitVec 1 := Scalar.cmpi .eq v18 c1_i32_19
  let c0_i32_14 : BitVec 32 := 0#32
  let v51 : BitVec 1 := Scalar.cmpi .eq v18 c0_i32_14
  let c0_i32_15 : BitVec 32 := 0#32
  let v52 : BitVec 32 := Scalar.select v51 v34 c0_i32_15
  let v57 : BitVec 32 := Scalar.select v56 v36 v52
  let v62 : BitVec 32 := Scalar.select v61 v38 v57
  let v67 : BitVec 32 := Scalar.select v66 v40 v62
  let v72 : BitVec 32 := Scalar.select v71 v42 v67
  let v77 : BitVec 32 := Scalar.select v76 v44 v72
  let v82 : BitVec 32 := Scalar.select v81 v46 v77
  let v87 : BitVec 32 := Scalar.select v86 v48 v82
  let v92 : BitVec 32 := Scalar.select v91 v50 v87
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v121 : BitVec 32 := Scalar.addi v92 v29
  let c128_i32_55 : BitVec 32 := 128#32
  let v122 : BitVec 32 := Scalar.addi v121 c128_i32_55
  let c0_i32_90_r12 : BitVec 32 := 0#32
  ![v122.toNat, 0]
def k0_cond6 (i : grid0.Coords) (v34 : BitVec 32) (v36 : BitVec 32) (v38 : BitVec 32) (v40 : BitVec 32) (v42 : BitVec 32) (v44 : BitVec 32) (v46 : BitVec 32) (v48 : BitVec 32) (v50 : BitVec 32) : BitVec 1 :=
  let c128_i32_54 : BitVec 32 := 128#32
  let c0_i32_53 : BitVec 32 := 0#32
  let c512_i32_39 : BitVec 32 := 512#32
  let c0_i32_38 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c1_i32_36 : BitVec 32 := 1#32
  let v93 : BitVec 32 := Scalar.addi v18 c1_i32_36
  let c8_i32_37 : BitVec 32 := 8#32
  let v94 : BitVec 1 := Scalar.cmpi .eq v93 c8_i32_37
  let c1_i32_34 : BitVec 32 := 1#32
  let v88 : BitVec 32 := Scalar.addi v18 c1_i32_34
  let c7_i32_35 : BitVec 32 := 7#32
  let v89 : BitVec 1 := Scalar.cmpi .eq v88 c7_i32_35
  let c1_i32_32 : BitVec 32 := 1#32
  let v83 : BitVec 32 := Scalar.addi v18 c1_i32_32
  let c6_i32_33 : BitVec 32 := 6#32
  let v84 : BitVec 1 := Scalar.cmpi .eq v83 c6_i32_33
  let c1_i32_30 : BitVec 32 := 1#32
  let v78 : BitVec 32 := Scalar.addi v18 c1_i32_30
  let c5_i32_31 : BitVec 32 := 5#32
  let v79 : BitVec 1 := Scalar.cmpi .eq v78 c5_i32_31
  let c1_i32_28 : BitVec 32 := 1#32
  let v73 : BitVec 32 := Scalar.addi v18 c1_i32_28
  let c4_i32_29 : BitVec 32 := 4#32
  let v74 : BitVec 1 := Scalar.cmpi .eq v73 c4_i32_29
  let c1_i32_25 : BitVec 32 := 1#32
  let v68 : BitVec 32 := Scalar.addi v18 c1_i32_25
  let c3_i32_26 : BitVec 32 := 3#32
  let v69 : BitVec 1 := Scalar.cmpi .eq v68 c3_i32_26
  let c1_i32_23 : BitVec 32 := 1#32
  let v63 : BitVec 32 := Scalar.addi v18 c1_i32_23
  let c2_i32_24 : BitVec 32 := 2#32
  let v64 : BitVec 1 := Scalar.cmpi .eq v63 c2_i32_24
  let c1_i32_20 : BitVec 32 := 1#32
  let v58 : BitVec 32 := Scalar.addi v18 c1_i32_20
  let c1_i32_21 : BitVec 32 := 1#32
  let v59 : BitVec 1 := Scalar.cmpi .eq v58 c1_i32_21
  let c1_i32_16 : BitVec 32 := 1#32
  let v53 : BitVec 32 := Scalar.addi v18 c1_i32_16
  let c0_i32_17 : BitVec 32 := 0#32
  let v54 : BitVec 1 := Scalar.cmpi .eq v53 c0_i32_17
  let c0_i32_18 : BitVec 32 := 0#32
  let v55 : BitVec 32 := Scalar.select v54 v34 c0_i32_18
  let v60 : BitVec 32 := Scalar.select v59 v36 v55
  let v65 : BitVec 32 := Scalar.select v64 v38 v60
  let v70 : BitVec 32 := Scalar.select v69 v40 v65
  let v75 : BitVec 32 := Scalar.select v74 v42 v70
  let v80 : BitVec 32 := Scalar.select v79 v44 v75
  let v85 : BitVec 32 := Scalar.select v84 v46 v80
  let v90 : BitVec 32 := Scalar.select v89 v48 v85
  let v95 : BitVec 32 := Scalar.select v94 v50 v90
  let c8_i32 : BitVec 32 := 8#32
  let v91 : BitVec 1 := Scalar.cmpi .eq v18 c8_i32
  let c7_i32 : BitVec 32 := 7#32
  let v86 : BitVec 1 := Scalar.cmpi .eq v18 c7_i32
  let c6_i32 : BitVec 32 := 6#32
  let v81 : BitVec 1 := Scalar.cmpi .eq v18 c6_i32
  let c5_i32 : BitVec 32 := 5#32
  let v76 : BitVec 1 := Scalar.cmpi .eq v18 c5_i32
  let c4_i32_27 : BitVec 32 := 4#32
  let v71 : BitVec 1 := Scalar.cmpi .eq v18 c4_i32_27
  let c3_i32 : BitVec 32 := 3#32
  let v66 : BitVec 1 := Scalar.cmpi .eq v18 c3_i32
  let c2_i32_22 : BitVec 32 := 2#32
  let v61 : BitVec 1 := Scalar.cmpi .eq v18 c2_i32_22
  let c1_i32_19 : BitVec 32 := 1#32
  let v56 : BitVec 1 := Scalar.cmpi .eq v18 c1_i32_19
  let c0_i32_14 : BitVec 32 := 0#32
  let v51 : BitVec 1 := Scalar.cmpi .eq v18 c0_i32_14
  let c0_i32_15 : BitVec 32 := 0#32
  let v52 : BitVec 32 := Scalar.select v51 v34 c0_i32_15
  let v57 : BitVec 32 := Scalar.select v56 v36 v52
  let v62 : BitVec 32 := Scalar.select v61 v38 v57
  let v67 : BitVec 32 := Scalar.select v66 v40 v62
  let v72 : BitVec 32 := Scalar.select v71 v42 v67
  let v77 : BitVec 32 := Scalar.select v76 v44 v72
  let v82 : BitVec 32 := Scalar.select v81 v46 v77
  let v87 : BitVec 32 := Scalar.select v86 v48 v82
  let v92 : BitVec 32 := Scalar.select v91 v50 v87
  let v96 : BitVec 32 := Scalar.subi v95 v92
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v97 : BitVec 32 := Scalar.subi v96 v29
  let v98 : BitVec 32 := Scalar.maxsi c0_i32_38 v97
  let v99 : BitVec 32 := Scalar.minsi c512_i32_39 v98
  let c128_i32_52 : BitVec 32 := 128#32
  let v118 : BitVec 32 := Scalar.subi v99 c128_i32_52
  let v119 : BitVec 32 := Scalar.maxsi c0_i32_53 v118
  let v120 : BitVec 32 := Scalar.minsi c128_i32_54 v119
  let c128_i32_58 : BitVec 32 := 128#32
  let v125 : BitVec 1 := Scalar.cmpi .eq v120 c128_i32_58
  let v126 : BitVec 32 := Scalar.extui v125
  let c0_i32_59 : BitVec 32 := 0#32
  let v127 : BitVec 1 := Scalar.cmpi .ne v126 c0_i32_59
  v127

def k0_off25 (i : grid0.Coords) (c0_i32_89 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_56 : BitVec 32 := 512#32
  let v123 : BitVec 32 := Scalar.muli v1 c512_i32_56
  let c128_i32_57 : BitVec 32 := 128#32
  let v124 : BitVec 32 := Scalar.addi v123 c128_i32_57
  let v172 : BitVec 32 := Scalar.addi v124 c0_i32_89
  let c0_i32_91_r13 : BitVec 32 := 0#32
  ![v172.toNat, 0]
@[reducible] def k0_t3_loop : Scf.Loop 32 :=
  let c0_i32_90 : BitVec 32 := 0#32
  let c128_i32_91 : BitVec 32 := 128#32
  let v172 : BitVec 32 := Scalar.addi c0_i32_90 c128_i32_91
  let c1_i32_92 : BitVec 32 := 1#32
  ⟨c0_i32_90, v172, c1_i32_92⟩
def k0_off26 (i : grid0.Coords) (k0_t3 : Fin k0_t3_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_56 : BitVec 32 := 512#32
  let v123 : BitVec 32 := Scalar.muli v1 c512_i32_56
  let c128_i32_57 : BitVec 32 := 128#32
  let v124 : BitVec 32 := Scalar.addi v123 c128_i32_57
  let c0_i32_90 : BitVec 32 := 0#32
  let c1_i32_92 : BitVec 32 := 1#32
  let arg7 : BitVec 32 := Scf.iv c0_i32_90 c1_i32_92 k0_t3
  let v180 : BitVec 32 := Scalar.addi v124 arg7
  let c0_i32_96_r21 : BitVec 32 := 0#32
  ![v180.toNat, 0]
def k0_off27 (i : grid0.Coords) (v34 : BitVec 32) (v36 : BitVec 32) (v38 : BitVec 32) (v40 : BitVec 32) (v42 : BitVec 32) (v44 : BitVec 32) (v46 : BitVec 32) (v48 : BitVec 32) (v50 : BitVec 32) (k0_t3 : Fin k0_t3_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c8_i32 : BitVec 32 := 8#32
  let v91 : BitVec 1 := Scalar.cmpi .eq v18 c8_i32
  let c7_i32 : BitVec 32 := 7#32
  let v86 : BitVec 1 := Scalar.cmpi .eq v18 c7_i32
  let c6_i32 : BitVec 32 := 6#32
  let v81 : BitVec 1 := Scalar.cmpi .eq v18 c6_i32
  let c5_i32 : BitVec 32 := 5#32
  let v76 : BitVec 1 := Scalar.cmpi .eq v18 c5_i32
  let c4_i32_27 : BitVec 32 := 4#32
  let v71 : BitVec 1 := Scalar.cmpi .eq v18 c4_i32_27
  let c3_i32 : BitVec 32 := 3#32
  let v66 : BitVec 1 := Scalar.cmpi .eq v18 c3_i32
  let c2_i32_22 : BitVec 32 := 2#32
  let v61 : BitVec 1 := Scalar.cmpi .eq v18 c2_i32_22
  let c1_i32_19 : BitVec 32 := 1#32
  let v56 : BitVec 1 := Scalar.cmpi .eq v18 c1_i32_19
  let c0_i32_14 : BitVec 32 := 0#32
  let v51 : BitVec 1 := Scalar.cmpi .eq v18 c0_i32_14
  let c0_i32_15 : BitVec 32 := 0#32
  let v52 : BitVec 32 := Scalar.select v51 v34 c0_i32_15
  let v57 : BitVec 32 := Scalar.select v56 v36 v52
  let v62 : BitVec 32 := Scalar.select v61 v38 v57
  let v67 : BitVec 32 := Scalar.select v66 v40 v62
  let v72 : BitVec 32 := Scalar.select v71 v42 v67
  let v77 : BitVec 32 := Scalar.select v76 v44 v72
  let v82 : BitVec 32 := Scalar.select v81 v46 v77
  let v87 : BitVec 32 := Scalar.select v86 v48 v82
  let v92 : BitVec 32 := Scalar.select v91 v50 v87
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v121 : BitVec 32 := Scalar.addi v92 v29
  let c128_i32_55 : BitVec 32 := 128#32
  let v122 : BitVec 32 := Scalar.addi v121 c128_i32_55
  let c0_i32_90 : BitVec 32 := 0#32
  let c1_i32_92 : BitVec 32 := 1#32
  let arg7 : BitVec 32 := Scf.iv c0_i32_90 c1_i32_92 k0_t3
  let v179 : BitVec 32 := Scalar.addi v122 arg7
  let c0_i32_97_r21 : BitVec 32 := 0#32
  ![v179.toNat, 0]
def k0_cond8 (i : grid0.Coords) (v34 : BitVec 32) (v36 : BitVec 32) (v38 : BitVec 32) (v40 : BitVec 32) (v42 : BitVec 32) (v44 : BitVec 32) (v46 : BitVec 32) (v48 : BitVec 32) (v50 : BitVec 32) : BitVec 1 :=
  let c128_i32_54 : BitVec 32 := 128#32
  let c0_i32_53 : BitVec 32 := 0#32
  let c512_i32_39 : BitVec 32 := 512#32
  let c0_i32_38 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c1_i32_36 : BitVec 32 := 1#32
  let v93 : BitVec 32 := Scalar.addi v18 c1_i32_36
  let c8_i32_37 : BitVec 32 := 8#32
  let v94 : BitVec 1 := Scalar.cmpi .eq v93 c8_i32_37
  let c1_i32_34 : BitVec 32 := 1#32
  let v88 : BitVec 32 := Scalar.addi v18 c1_i32_34
  let c7_i32_35 : BitVec 32 := 7#32
  let v89 : BitVec 1 := Scalar.cmpi .eq v88 c7_i32_35
  let c1_i32_32 : BitVec 32 := 1#32
  let v83 : BitVec 32 := Scalar.addi v18 c1_i32_32
  let c6_i32_33 : BitVec 32 := 6#32
  let v84 : BitVec 1 := Scalar.cmpi .eq v83 c6_i32_33
  let c1_i32_30 : BitVec 32 := 1#32
  let v78 : BitVec 32 := Scalar.addi v18 c1_i32_30
  let c5_i32_31 : BitVec 32 := 5#32
  let v79 : BitVec 1 := Scalar.cmpi .eq v78 c5_i32_31
  let c1_i32_28 : BitVec 32 := 1#32
  let v73 : BitVec 32 := Scalar.addi v18 c1_i32_28
  let c4_i32_29 : BitVec 32 := 4#32
  let v74 : BitVec 1 := Scalar.cmpi .eq v73 c4_i32_29
  let c1_i32_25 : BitVec 32 := 1#32
  let v68 : BitVec 32 := Scalar.addi v18 c1_i32_25
  let c3_i32_26 : BitVec 32 := 3#32
  let v69 : BitVec 1 := Scalar.cmpi .eq v68 c3_i32_26
  let c1_i32_23 : BitVec 32 := 1#32
  let v63 : BitVec 32 := Scalar.addi v18 c1_i32_23
  let c2_i32_24 : BitVec 32 := 2#32
  let v64 : BitVec 1 := Scalar.cmpi .eq v63 c2_i32_24
  let c1_i32_20 : BitVec 32 := 1#32
  let v58 : BitVec 32 := Scalar.addi v18 c1_i32_20
  let c1_i32_21 : BitVec 32 := 1#32
  let v59 : BitVec 1 := Scalar.cmpi .eq v58 c1_i32_21
  let c1_i32_16 : BitVec 32 := 1#32
  let v53 : BitVec 32 := Scalar.addi v18 c1_i32_16
  let c0_i32_17 : BitVec 32 := 0#32
  let v54 : BitVec 1 := Scalar.cmpi .eq v53 c0_i32_17
  let c0_i32_18 : BitVec 32 := 0#32
  let v55 : BitVec 32 := Scalar.select v54 v34 c0_i32_18
  let v60 : BitVec 32 := Scalar.select v59 v36 v55
  let v65 : BitVec 32 := Scalar.select v64 v38 v60
  let v70 : BitVec 32 := Scalar.select v69 v40 v65
  let v75 : BitVec 32 := Scalar.select v74 v42 v70
  let v80 : BitVec 32 := Scalar.select v79 v44 v75
  let v85 : BitVec 32 := Scalar.select v84 v46 v80
  let v90 : BitVec 32 := Scalar.select v89 v48 v85
  let v95 : BitVec 32 := Scalar.select v94 v50 v90
  let c8_i32 : BitVec 32 := 8#32
  let v91 : BitVec 1 := Scalar.cmpi .eq v18 c8_i32
  let c7_i32 : BitVec 32 := 7#32
  let v86 : BitVec 1 := Scalar.cmpi .eq v18 c7_i32
  let c6_i32 : BitVec 32 := 6#32
  let v81 : BitVec 1 := Scalar.cmpi .eq v18 c6_i32
  let c5_i32 : BitVec 32 := 5#32
  let v76 : BitVec 1 := Scalar.cmpi .eq v18 c5_i32
  let c4_i32_27 : BitVec 32 := 4#32
  let v71 : BitVec 1 := Scalar.cmpi .eq v18 c4_i32_27
  let c3_i32 : BitVec 32 := 3#32
  let v66 : BitVec 1 := Scalar.cmpi .eq v18 c3_i32
  let c2_i32_22 : BitVec 32 := 2#32
  let v61 : BitVec 1 := Scalar.cmpi .eq v18 c2_i32_22
  let c1_i32_19 : BitVec 32 := 1#32
  let v56 : BitVec 1 := Scalar.cmpi .eq v18 c1_i32_19
  let c0_i32_14 : BitVec 32 := 0#32
  let v51 : BitVec 1 := Scalar.cmpi .eq v18 c0_i32_14
  let c0_i32_15 : BitVec 32 := 0#32
  let v52 : BitVec 32 := Scalar.select v51 v34 c0_i32_15
  let v57 : BitVec 32 := Scalar.select v56 v36 v52
  let v62 : BitVec 32 := Scalar.select v61 v38 v57
  let v67 : BitVec 32 := Scalar.select v66 v40 v62
  let v72 : BitVec 32 := Scalar.select v71 v42 v67
  let v77 : BitVec 32 := Scalar.select v76 v44 v72
  let v82 : BitVec 32 := Scalar.select v81 v46 v77
  let v87 : BitVec 32 := Scalar.select v86 v48 v82
  let v92 : BitVec 32 := Scalar.select v91 v50 v87
  let v96 : BitVec 32 := Scalar.subi v95 v92
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v97 : BitVec 32 := Scalar.subi v96 v29
  let v98 : BitVec 32 := Scalar.maxsi c0_i32_38 v97
  let v99 : BitVec 32 := Scalar.minsi c512_i32_39 v98
  let c128_i32_52 : BitVec 32 := 128#32
  let v118 : BitVec 32 := Scalar.subi v99 c128_i32_52
  let v119 : BitVec 32 := Scalar.maxsi c0_i32_53 v118
  let v120 : BitVec 32 := Scalar.minsi c128_i32_54 v119
  let c0_i32_62 : BitVec 32 := 0#32
  let v131 : BitVec 1 := Scalar.cmpi .sgt v120 c0_i32_62
  let c128_i32_63 : BitVec 32 := 128#32
  let v132 : BitVec 1 := Scalar.cmpi .slt v120 c128_i32_63
  let v133 : BitVec 1 := Scalar.andi v131 v132
  let v134 : BitVec 32 := Scalar.extui v133
  let c0_i32_64 : BitVec 32 := 0#32
  let v135 : BitVec 1 := Scalar.cmpi .ne v134 c0_i32_64
  v135

def k0_cond9 (i : grid0.Coords) (v34 : BitVec 32) (v36 : BitVec 32) (v38 : BitVec 32) (v40 : BitVec 32) (v42 : BitVec 32) (v44 : BitVec 32) (v46 : BitVec 32) (v48 : BitVec 32) (v50 : BitVec 32) (k0_t3 : Fin k0_t3_loop.trips) : BitVec 1 :=
  let c0_i32_90 : BitVec 32 := 0#32
  let c1_i32_92 : BitVec 32 := 1#32
  let arg7 : BitVec 32 := Scf.iv c0_i32_90 c1_i32_92 k0_t3
  let c128_i32_54 : BitVec 32 := 128#32
  let c0_i32_53 : BitVec 32 := 0#32
  let c512_i32_39 : BitVec 32 := 512#32
  let c0_i32_38 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c1_i32_36 : BitVec 32 := 1#32
  let v93 : BitVec 32 := Scalar.addi v18 c1_i32_36
  let c8_i32_37 : BitVec 32 := 8#32
  let v94 : BitVec 1 := Scalar.cmpi .eq v93 c8_i32_37
  let c1_i32_34 : BitVec 32 := 1#32
  let v88 : BitVec 32 := Scalar.addi v18 c1_i32_34
  let c7_i32_35 : BitVec 32 := 7#32
  let v89 : BitVec 1 := Scalar.cmpi .eq v88 c7_i32_35
  let c1_i32_32 : BitVec 32 := 1#32
  let v83 : BitVec 32 := Scalar.addi v18 c1_i32_32
  let c6_i32_33 : BitVec 32 := 6#32
  let v84 : BitVec 1 := Scalar.cmpi .eq v83 c6_i32_33
  let c1_i32_30 : BitVec 32 := 1#32
  let v78 : BitVec 32 := Scalar.addi v18 c1_i32_30
  let c5_i32_31 : BitVec 32 := 5#32
  let v79 : BitVec 1 := Scalar.cmpi .eq v78 c5_i32_31
  let c1_i32_28 : BitVec 32 := 1#32
  let v73 : BitVec 32 := Scalar.addi v18 c1_i32_28
  let c4_i32_29 : BitVec 32 := 4#32
  let v74 : BitVec 1 := Scalar.cmpi .eq v73 c4_i32_29
  let c1_i32_25 : BitVec 32 := 1#32
  let v68 : BitVec 32 := Scalar.addi v18 c1_i32_25
  let c3_i32_26 : BitVec 32 := 3#32
  let v69 : BitVec 1 := Scalar.cmpi .eq v68 c3_i32_26
  let c1_i32_23 : BitVec 32 := 1#32
  let v63 : BitVec 32 := Scalar.addi v18 c1_i32_23
  let c2_i32_24 : BitVec 32 := 2#32
  let v64 : BitVec 1 := Scalar.cmpi .eq v63 c2_i32_24
  let c1_i32_20 : BitVec 32 := 1#32
  let v58 : BitVec 32 := Scalar.addi v18 c1_i32_20
  let c1_i32_21 : BitVec 32 := 1#32
  let v59 : BitVec 1 := Scalar.cmpi .eq v58 c1_i32_21
  let c1_i32_16 : BitVec 32 := 1#32
  let v53 : BitVec 32 := Scalar.addi v18 c1_i32_16
  let c0_i32_17 : BitVec 32 := 0#32
  let v54 : BitVec 1 := Scalar.cmpi .eq v53 c0_i32_17
  let c0_i32_18 : BitVec 32 := 0#32
  let v55 : BitVec 32 := Scalar.select v54 v34 c0_i32_18
  let v60 : BitVec 32 := Scalar.select v59 v36 v55
  let v65 : BitVec 32 := Scalar.select v64 v38 v60
  let v70 : BitVec 32 := Scalar.select v69 v40 v65
  let v75 : BitVec 32 := Scalar.select v74 v42 v70
  let v80 : BitVec 32 := Scalar.select v79 v44 v75
  let v85 : BitVec 32 := Scalar.select v84 v46 v80
  let v90 : BitVec 32 := Scalar.select v89 v48 v85
  let v95 : BitVec 32 := Scalar.select v94 v50 v90
  let c8_i32 : BitVec 32 := 8#32
  let v91 : BitVec 1 := Scalar.cmpi .eq v18 c8_i32
  let c7_i32 : BitVec 32 := 7#32
  let v86 : BitVec 1 := Scalar.cmpi .eq v18 c7_i32
  let c6_i32 : BitVec 32 := 6#32
  let v81 : BitVec 1 := Scalar.cmpi .eq v18 c6_i32
  let c5_i32 : BitVec 32 := 5#32
  let v76 : BitVec 1 := Scalar.cmpi .eq v18 c5_i32
  let c4_i32_27 : BitVec 32 := 4#32
  let v71 : BitVec 1 := Scalar.cmpi .eq v18 c4_i32_27
  let c3_i32 : BitVec 32 := 3#32
  let v66 : BitVec 1 := Scalar.cmpi .eq v18 c3_i32
  let c2_i32_22 : BitVec 32 := 2#32
  let v61 : BitVec 1 := Scalar.cmpi .eq v18 c2_i32_22
  let c1_i32_19 : BitVec 32 := 1#32
  let v56 : BitVec 1 := Scalar.cmpi .eq v18 c1_i32_19
  let c0_i32_14 : BitVec 32 := 0#32
  let v51 : BitVec 1 := Scalar.cmpi .eq v18 c0_i32_14
  let c0_i32_15 : BitVec 32 := 0#32
  let v52 : BitVec 32 := Scalar.select v51 v34 c0_i32_15
  let v57 : BitVec 32 := Scalar.select v56 v36 v52
  let v62 : BitVec 32 := Scalar.select v61 v38 v57
  let v67 : BitVec 32 := Scalar.select v66 v40 v62
  let v72 : BitVec 32 := Scalar.select v71 v42 v67
  let v77 : BitVec 32 := Scalar.select v76 v44 v72
  let v82 : BitVec 32 := Scalar.select v81 v46 v77
  let v87 : BitVec 32 := Scalar.select v86 v48 v82
  let v92 : BitVec 32 := Scalar.select v91 v50 v87
  let v96 : BitVec 32 := Scalar.subi v95 v92
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v97 : BitVec 32 := Scalar.subi v96 v29
  let v98 : BitVec 32 := Scalar.maxsi c0_i32_38 v97
  let v99 : BitVec 32 := Scalar.minsi c512_i32_39 v98
  let c128_i32_52 : BitVec 32 := 128#32
  let v118 : BitVec 32 := Scalar.subi v99 c128_i32_52
  let v119 : BitVec 32 := Scalar.maxsi c0_i32_53 v118
  let v120 : BitVec 32 := Scalar.minsi c128_i32_54 v119
  let v173 : BitVec 1 := Scalar.cmpi .slt arg7 v120
  let v174 : BitVec 32 := Scalar.extui v173
  let c0_i32_94 : BitVec 32 := 0#32
  let v175 : BitVec 1 := Scalar.cmpi .ne v174 c0_i32_94
  v175

def k0_off28 (i : grid0.Coords) (k0_t3 : Fin k0_t3_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_56 : BitVec 32 := 512#32
  let v123 : BitVec 32 := Scalar.muli v1 c512_i32_56
  let c128_i32_57 : BitVec 32 := 128#32
  let v124 : BitVec 32 := Scalar.addi v123 c128_i32_57
  let c0_i32_90 : BitVec 32 := 0#32
  let c1_i32_92 : BitVec 32 := 1#32
  let arg7 : BitVec 32 := Scf.iv c0_i32_90 c1_i32_92 k0_t3
  let v179 : BitVec 32 := Scalar.addi v124 arg7
  let c0_i32_98_r22 : BitVec 32 := 0#32
  ![v179.toNat, 0]
def k0_off29 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_68 : BitVec 32 := 512#32
  let v141 : BitVec 32 := Scalar.muli v1 c512_i32_68
  let c256_i32_69 : BitVec 32 := 256#32
  let v142 : BitVec 32 := Scalar.addi v141 c256_i32_69
  let c0_i32_89_r23 : BitVec 32 := 0#32
  ![v142.toNat, 0]
def k0_off30 (i : grid0.Coords) (v34 : BitVec 32) (v36 : BitVec 32) (v38 : BitVec 32) (v40 : BitVec 32) (v42 : BitVec 32) (v44 : BitVec 32) (v46 : BitVec 32) (v48 : BitVec 32) (v50 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c8_i32 : BitVec 32 := 8#32
  let v91 : BitVec 1 := Scalar.cmpi .eq v18 c8_i32
  let c7_i32 : BitVec 32 := 7#32
  let v86 : BitVec 1 := Scalar.cmpi .eq v18 c7_i32
  let c6_i32 : BitVec 32 := 6#32
  let v81 : BitVec 1 := Scalar.cmpi .eq v18 c6_i32
  let c5_i32 : BitVec 32 := 5#32
  let v76 : BitVec 1 := Scalar.cmpi .eq v18 c5_i32
  let c4_i32_27 : BitVec 32 := 4#32
  let v71 : BitVec 1 := Scalar.cmpi .eq v18 c4_i32_27
  let c3_i32 : BitVec 32 := 3#32
  let v66 : BitVec 1 := Scalar.cmpi .eq v18 c3_i32
  let c2_i32_22 : BitVec 32 := 2#32
  let v61 : BitVec 1 := Scalar.cmpi .eq v18 c2_i32_22
  let c1_i32_19 : BitVec 32 := 1#32
  let v56 : BitVec 1 := Scalar.cmpi .eq v18 c1_i32_19
  let c0_i32_14 : BitVec 32 := 0#32
  let v51 : BitVec 1 := Scalar.cmpi .eq v18 c0_i32_14
  let c0_i32_15 : BitVec 32 := 0#32
  let v52 : BitVec 32 := Scalar.select v51 v34 c0_i32_15
  let v57 : BitVec 32 := Scalar.select v56 v36 v52
  let v62 : BitVec 32 := Scalar.select v61 v38 v57
  let v67 : BitVec 32 := Scalar.select v66 v40 v62
  let v72 : BitVec 32 := Scalar.select v71 v42 v67
  let v77 : BitVec 32 := Scalar.select v76 v44 v72
  let v82 : BitVec 32 := Scalar.select v81 v46 v77
  let v87 : BitVec 32 := Scalar.select v86 v48 v82
  let v92 : BitVec 32 := Scalar.select v91 v50 v87
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v139 : BitVec 32 := Scalar.addi v92 v29
  let c256_i32_67 : BitVec 32 := 256#32
  let v140 : BitVec 32 := Scalar.addi v139 c256_i32_67
  let c0_i32_90_r23 : BitVec 32 := 0#32
  ![v140.toNat, 0]
def k0_cond11 (i : grid0.Coords) (v34 : BitVec 32) (v36 : BitVec 32) (v38 : BitVec 32) (v40 : BitVec 32) (v42 : BitVec 32) (v44 : BitVec 32) (v46 : BitVec 32) (v48 : BitVec 32) (v50 : BitVec 32) : BitVec 1 :=
  let c128_i32_66 : BitVec 32 := 128#32
  let c0_i32_65 : BitVec 32 := 0#32
  let c512_i32_39 : BitVec 32 := 512#32
  let c0_i32_38 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c1_i32_36 : BitVec 32 := 1#32
  let v93 : BitVec 32 := Scalar.addi v18 c1_i32_36
  let c8_i32_37 : BitVec 32 := 8#32
  let v94 : BitVec 1 := Scalar.cmpi .eq v93 c8_i32_37
  let c1_i32_34 : BitVec 32 := 1#32
  let v88 : BitVec 32 := Scalar.addi v18 c1_i32_34
  let c7_i32_35 : BitVec 32 := 7#32
  let v89 : BitVec 1 := Scalar.cmpi .eq v88 c7_i32_35
  let c1_i32_32 : BitVec 32 := 1#32
  let v83 : BitVec 32 := Scalar.addi v18 c1_i32_32
  let c6_i32_33 : BitVec 32 := 6#32
  let v84 : BitVec 1 := Scalar.cmpi .eq v83 c6_i32_33
  let c1_i32_30 : BitVec 32 := 1#32
  let v78 : BitVec 32 := Scalar.addi v18 c1_i32_30
  let c5_i32_31 : BitVec 32 := 5#32
  let v79 : BitVec 1 := Scalar.cmpi .eq v78 c5_i32_31
  let c1_i32_28 : BitVec 32 := 1#32
  let v73 : BitVec 32 := Scalar.addi v18 c1_i32_28
  let c4_i32_29 : BitVec 32 := 4#32
  let v74 : BitVec 1 := Scalar.cmpi .eq v73 c4_i32_29
  let c1_i32_25 : BitVec 32 := 1#32
  let v68 : BitVec 32 := Scalar.addi v18 c1_i32_25
  let c3_i32_26 : BitVec 32 := 3#32
  let v69 : BitVec 1 := Scalar.cmpi .eq v68 c3_i32_26
  let c1_i32_23 : BitVec 32 := 1#32
  let v63 : BitVec 32 := Scalar.addi v18 c1_i32_23
  let c2_i32_24 : BitVec 32 := 2#32
  let v64 : BitVec 1 := Scalar.cmpi .eq v63 c2_i32_24
  let c1_i32_20 : BitVec 32 := 1#32
  let v58 : BitVec 32 := Scalar.addi v18 c1_i32_20
  let c1_i32_21 : BitVec 32 := 1#32
  let v59 : BitVec 1 := Scalar.cmpi .eq v58 c1_i32_21
  let c1_i32_16 : BitVec 32 := 1#32
  let v53 : BitVec 32 := Scalar.addi v18 c1_i32_16
  let c0_i32_17 : BitVec 32 := 0#32
  let v54 : BitVec 1 := Scalar.cmpi .eq v53 c0_i32_17
  let c0_i32_18 : BitVec 32 := 0#32
  let v55 : BitVec 32 := Scalar.select v54 v34 c0_i32_18
  let v60 : BitVec 32 := Scalar.select v59 v36 v55
  let v65 : BitVec 32 := Scalar.select v64 v38 v60
  let v70 : BitVec 32 := Scalar.select v69 v40 v65
  let v75 : BitVec 32 := Scalar.select v74 v42 v70
  let v80 : BitVec 32 := Scalar.select v79 v44 v75
  let v85 : BitVec 32 := Scalar.select v84 v46 v80
  let v90 : BitVec 32 := Scalar.select v89 v48 v85
  let v95 : BitVec 32 := Scalar.select v94 v50 v90
  let c8_i32 : BitVec 32 := 8#32
  let v91 : BitVec 1 := Scalar.cmpi .eq v18 c8_i32
  let c7_i32 : BitVec 32 := 7#32
  let v86 : BitVec 1 := Scalar.cmpi .eq v18 c7_i32
  let c6_i32 : BitVec 32 := 6#32
  let v81 : BitVec 1 := Scalar.cmpi .eq v18 c6_i32
  let c5_i32 : BitVec 32 := 5#32
  let v76 : BitVec 1 := Scalar.cmpi .eq v18 c5_i32
  let c4_i32_27 : BitVec 32 := 4#32
  let v71 : BitVec 1 := Scalar.cmpi .eq v18 c4_i32_27
  let c3_i32 : BitVec 32 := 3#32
  let v66 : BitVec 1 := Scalar.cmpi .eq v18 c3_i32
  let c2_i32_22 : BitVec 32 := 2#32
  let v61 : BitVec 1 := Scalar.cmpi .eq v18 c2_i32_22
  let c1_i32_19 : BitVec 32 := 1#32
  let v56 : BitVec 1 := Scalar.cmpi .eq v18 c1_i32_19
  let c0_i32_14 : BitVec 32 := 0#32
  let v51 : BitVec 1 := Scalar.cmpi .eq v18 c0_i32_14
  let c0_i32_15 : BitVec 32 := 0#32
  let v52 : BitVec 32 := Scalar.select v51 v34 c0_i32_15
  let v57 : BitVec 32 := Scalar.select v56 v36 v52
  let v62 : BitVec 32 := Scalar.select v61 v38 v57
  let v67 : BitVec 32 := Scalar.select v66 v40 v62
  let v72 : BitVec 32 := Scalar.select v71 v42 v67
  let v77 : BitVec 32 := Scalar.select v76 v44 v72
  let v82 : BitVec 32 := Scalar.select v81 v46 v77
  let v87 : BitVec 32 := Scalar.select v86 v48 v82
  let v92 : BitVec 32 := Scalar.select v91 v50 v87
  let v96 : BitVec 32 := Scalar.subi v95 v92
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v97 : BitVec 32 := Scalar.subi v96 v29
  let v98 : BitVec 32 := Scalar.maxsi c0_i32_38 v97
  let v99 : BitVec 32 := Scalar.minsi c512_i32_39 v98
  let c256_i32 : BitVec 32 := 256#32
  let v136 : BitVec 32 := Scalar.subi v99 c256_i32
  let v137 : BitVec 32 := Scalar.maxsi c0_i32_65 v136
  let v138 : BitVec 32 := Scalar.minsi c128_i32_66 v137
  let c128_i32_70 : BitVec 32 := 128#32
  let v143 : BitVec 1 := Scalar.cmpi .eq v138 c128_i32_70
  let v144 : BitVec 32 := Scalar.extui v143
  let c0_i32_71 : BitVec 32 := 0#32
  let v145 : BitVec 1 := Scalar.cmpi .ne v144 c0_i32_71
  v145

def k0_off31 (i : grid0.Coords) (c0_i32_89 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_68 : BitVec 32 := 512#32
  let v141 : BitVec 32 := Scalar.muli v1 c512_i32_68
  let c256_i32_69 : BitVec 32 := 256#32
  let v142 : BitVec 32 := Scalar.addi v141 c256_i32_69
  let v172 : BitVec 32 := Scalar.addi v142 c0_i32_89
  let c0_i32_91_r24 : BitVec 32 := 0#32
  ![v172.toNat, 0]
@[reducible] def k0_t4_loop : Scf.Loop 32 :=
  let c0_i32_90 : BitVec 32 := 0#32
  let c128_i32_91 : BitVec 32 := 128#32
  let v172 : BitVec 32 := Scalar.addi c0_i32_90 c128_i32_91
  let c1_i32_92 : BitVec 32 := 1#32
  ⟨c0_i32_90, v172, c1_i32_92⟩
def k0_off32 (i : grid0.Coords) (k0_t4 : Fin k0_t4_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_68 : BitVec 32 := 512#32
  let v141 : BitVec 32 := Scalar.muli v1 c512_i32_68
  let c256_i32_69 : BitVec 32 := 256#32
  let v142 : BitVec 32 := Scalar.addi v141 c256_i32_69
  let c0_i32_90 : BitVec 32 := 0#32
  let c1_i32_92 : BitVec 32 := 1#32
  let arg7 : BitVec 32 := Scf.iv c0_i32_90 c1_i32_92 k0_t4
  let v180 : BitVec 32 := Scalar.addi v142 arg7
  let c0_i32_96_r32 : BitVec 32 := 0#32
  ![v180.toNat, 0]
def k0_off33 (i : grid0.Coords) (v34 : BitVec 32) (v36 : BitVec 32) (v38 : BitVec 32) (v40 : BitVec 32) (v42 : BitVec 32) (v44 : BitVec 32) (v46 : BitVec 32) (v48 : BitVec 32) (v50 : BitVec 32) (k0_t4 : Fin k0_t4_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c8_i32 : BitVec 32 := 8#32
  let v91 : BitVec 1 := Scalar.cmpi .eq v18 c8_i32
  let c7_i32 : BitVec 32 := 7#32
  let v86 : BitVec 1 := Scalar.cmpi .eq v18 c7_i32
  let c6_i32 : BitVec 32 := 6#32
  let v81 : BitVec 1 := Scalar.cmpi .eq v18 c6_i32
  let c5_i32 : BitVec 32 := 5#32
  let v76 : BitVec 1 := Scalar.cmpi .eq v18 c5_i32
  let c4_i32_27 : BitVec 32 := 4#32
  let v71 : BitVec 1 := Scalar.cmpi .eq v18 c4_i32_27
  let c3_i32 : BitVec 32 := 3#32
  let v66 : BitVec 1 := Scalar.cmpi .eq v18 c3_i32
  let c2_i32_22 : BitVec 32 := 2#32
  let v61 : BitVec 1 := Scalar.cmpi .eq v18 c2_i32_22
  let c1_i32_19 : BitVec 32 := 1#32
  let v56 : BitVec 1 := Scalar.cmpi .eq v18 c1_i32_19
  let c0_i32_14 : BitVec 32 := 0#32
  let v51 : BitVec 1 := Scalar.cmpi .eq v18 c0_i32_14
  let c0_i32_15 : BitVec 32 := 0#32
  let v52 : BitVec 32 := Scalar.select v51 v34 c0_i32_15
  let v57 : BitVec 32 := Scalar.select v56 v36 v52
  let v62 : BitVec 32 := Scalar.select v61 v38 v57
  let v67 : BitVec 32 := Scalar.select v66 v40 v62
  let v72 : BitVec 32 := Scalar.select v71 v42 v67
  let v77 : BitVec 32 := Scalar.select v76 v44 v72
  let v82 : BitVec 32 := Scalar.select v81 v46 v77
  let v87 : BitVec 32 := Scalar.select v86 v48 v82
  let v92 : BitVec 32 := Scalar.select v91 v50 v87
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v139 : BitVec 32 := Scalar.addi v92 v29
  let c256_i32_67 : BitVec 32 := 256#32
  let v140 : BitVec 32 := Scalar.addi v139 c256_i32_67
  let c0_i32_90 : BitVec 32 := 0#32
  let c1_i32_92 : BitVec 32 := 1#32
  let arg7 : BitVec 32 := Scf.iv c0_i32_90 c1_i32_92 k0_t4
  let v179 : BitVec 32 := Scalar.addi v140 arg7
  let c0_i32_97_r32 : BitVec 32 := 0#32
  ![v179.toNat, 0]
def k0_cond13 (i : grid0.Coords) (v34 : BitVec 32) (v36 : BitVec 32) (v38 : BitVec 32) (v40 : BitVec 32) (v42 : BitVec 32) (v44 : BitVec 32) (v46 : BitVec 32) (v48 : BitVec 32) (v50 : BitVec 32) : BitVec 1 :=
  let c128_i32_66 : BitVec 32 := 128#32
  let c0_i32_65 : BitVec 32 := 0#32
  let c512_i32_39 : BitVec 32 := 512#32
  let c0_i32_38 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c1_i32_36 : BitVec 32 := 1#32
  let v93 : BitVec 32 := Scalar.addi v18 c1_i32_36
  let c8_i32_37 : BitVec 32 := 8#32
  let v94 : BitVec 1 := Scalar.cmpi .eq v93 c8_i32_37
  let c1_i32_34 : BitVec 32 := 1#32
  let v88 : BitVec 32 := Scalar.addi v18 c1_i32_34
  let c7_i32_35 : BitVec 32 := 7#32
  let v89 : BitVec 1 := Scalar.cmpi .eq v88 c7_i32_35
  let c1_i32_32 : BitVec 32 := 1#32
  let v83 : BitVec 32 := Scalar.addi v18 c1_i32_32
  let c6_i32_33 : BitVec 32 := 6#32
  let v84 : BitVec 1 := Scalar.cmpi .eq v83 c6_i32_33
  let c1_i32_30 : BitVec 32 := 1#32
  let v78 : BitVec 32 := Scalar.addi v18 c1_i32_30
  let c5_i32_31 : BitVec 32 := 5#32
  let v79 : BitVec 1 := Scalar.cmpi .eq v78 c5_i32_31
  let c1_i32_28 : BitVec 32 := 1#32
  let v73 : BitVec 32 := Scalar.addi v18 c1_i32_28
  let c4_i32_29 : BitVec 32 := 4#32
  let v74 : BitVec 1 := Scalar.cmpi .eq v73 c4_i32_29
  let c1_i32_25 : BitVec 32 := 1#32
  let v68 : BitVec 32 := Scalar.addi v18 c1_i32_25
  let c3_i32_26 : BitVec 32 := 3#32
  let v69 : BitVec 1 := Scalar.cmpi .eq v68 c3_i32_26
  let c1_i32_23 : BitVec 32 := 1#32
  let v63 : BitVec 32 := Scalar.addi v18 c1_i32_23
  let c2_i32_24 : BitVec 32 := 2#32
  let v64 : BitVec 1 := Scalar.cmpi .eq v63 c2_i32_24
  let c1_i32_20 : BitVec 32 := 1#32
  let v58 : BitVec 32 := Scalar.addi v18 c1_i32_20
  let c1_i32_21 : BitVec 32 := 1#32
  let v59 : BitVec 1 := Scalar.cmpi .eq v58 c1_i32_21
  let c1_i32_16 : BitVec 32 := 1#32
  let v53 : BitVec 32 := Scalar.addi v18 c1_i32_16
  let c0_i32_17 : BitVec 32 := 0#32
  let v54 : BitVec 1 := Scalar.cmpi .eq v53 c0_i32_17
  let c0_i32_18 : BitVec 32 := 0#32
  let v55 : BitVec 32 := Scalar.select v54 v34 c0_i32_18
  let v60 : BitVec 32 := Scalar.select v59 v36 v55
  let v65 : BitVec 32 := Scalar.select v64 v38 v60
  let v70 : BitVec 32 := Scalar.select v69 v40 v65
  let v75 : BitVec 32 := Scalar.select v74 v42 v70
  let v80 : BitVec 32 := Scalar.select v79 v44 v75
  let v85 : BitVec 32 := Scalar.select v84 v46 v80
  let v90 : BitVec 32 := Scalar.select v89 v48 v85
  let v95 : BitVec 32 := Scalar.select v94 v50 v90
  let c8_i32 : BitVec 32 := 8#32
  let v91 : BitVec 1 := Scalar.cmpi .eq v18 c8_i32
  let c7_i32 : BitVec 32 := 7#32
  let v86 : BitVec 1 := Scalar.cmpi .eq v18 c7_i32
  let c6_i32 : BitVec 32 := 6#32
  let v81 : BitVec 1 := Scalar.cmpi .eq v18 c6_i32
  let c5_i32 : BitVec 32 := 5#32
  let v76 : BitVec 1 := Scalar.cmpi .eq v18 c5_i32
  let c4_i32_27 : BitVec 32 := 4#32
  let v71 : BitVec 1 := Scalar.cmpi .eq v18 c4_i32_27
  let c3_i32 : BitVec 32 := 3#32
  let v66 : BitVec 1 := Scalar.cmpi .eq v18 c3_i32
  let c2_i32_22 : BitVec 32 := 2#32
  let v61 : BitVec 1 := Scalar.cmpi .eq v18 c2_i32_22
  let c1_i32_19 : BitVec 32 := 1#32
  let v56 : BitVec 1 := Scalar.cmpi .eq v18 c1_i32_19
  let c0_i32_14 : BitVec 32 := 0#32
  let v51 : BitVec 1 := Scalar.cmpi .eq v18 c0_i32_14
  let c0_i32_15 : BitVec 32 := 0#32
  let v52 : BitVec 32 := Scalar.select v51 v34 c0_i32_15
  let v57 : BitVec 32 := Scalar.select v56 v36 v52
  let v62 : BitVec 32 := Scalar.select v61 v38 v57
  let v67 : BitVec 32 := Scalar.select v66 v40 v62
  let v72 : BitVec 32 := Scalar.select v71 v42 v67
  let v77 : BitVec 32 := Scalar.select v76 v44 v72
  let v82 : BitVec 32 := Scalar.select v81 v46 v77
  let v87 : BitVec 32 := Scalar.select v86 v48 v82
  let v92 : BitVec 32 := Scalar.select v91 v50 v87
  let v96 : BitVec 32 := Scalar.subi v95 v92
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v97 : BitVec 32 := Scalar.subi v96 v29
  let v98 : BitVec 32 := Scalar.maxsi c0_i32_38 v97
  let v99 : BitVec 32 := Scalar.minsi c512_i32_39 v98
  let c256_i32 : BitVec 32 := 256#32
  let v136 : BitVec 32 := Scalar.subi v99 c256_i32
  let v137 : BitVec 32 := Scalar.maxsi c0_i32_65 v136
  let v138 : BitVec 32 := Scalar.minsi c128_i32_66 v137
  let c0_i32_74 : BitVec 32 := 0#32
  let v149 : BitVec 1 := Scalar.cmpi .sgt v138 c0_i32_74
  let c128_i32_75 : BitVec 32 := 128#32
  let v150 : BitVec 1 := Scalar.cmpi .slt v138 c128_i32_75
  let v151 : BitVec 1 := Scalar.andi v149 v150
  let v152 : BitVec 32 := Scalar.extui v151
  let c0_i32_76 : BitVec 32 := 0#32
  let v153 : BitVec 1 := Scalar.cmpi .ne v152 c0_i32_76
  v153

def k0_cond14 (i : grid0.Coords) (v34 : BitVec 32) (v36 : BitVec 32) (v38 : BitVec 32) (v40 : BitVec 32) (v42 : BitVec 32) (v44 : BitVec 32) (v46 : BitVec 32) (v48 : BitVec 32) (v50 : BitVec 32) (k0_t4 : Fin k0_t4_loop.trips) : BitVec 1 :=
  let c0_i32_90 : BitVec 32 := 0#32
  let c1_i32_92 : BitVec 32 := 1#32
  let arg7 : BitVec 32 := Scf.iv c0_i32_90 c1_i32_92 k0_t4
  let c128_i32_66 : BitVec 32 := 128#32
  let c0_i32_65 : BitVec 32 := 0#32
  let c512_i32_39 : BitVec 32 := 512#32
  let c0_i32_38 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c1_i32_36 : BitVec 32 := 1#32
  let v93 : BitVec 32 := Scalar.addi v18 c1_i32_36
  let c8_i32_37 : BitVec 32 := 8#32
  let v94 : BitVec 1 := Scalar.cmpi .eq v93 c8_i32_37
  let c1_i32_34 : BitVec 32 := 1#32
  let v88 : BitVec 32 := Scalar.addi v18 c1_i32_34
  let c7_i32_35 : BitVec 32 := 7#32
  let v89 : BitVec 1 := Scalar.cmpi .eq v88 c7_i32_35
  let c1_i32_32 : BitVec 32 := 1#32
  let v83 : BitVec 32 := Scalar.addi v18 c1_i32_32
  let c6_i32_33 : BitVec 32 := 6#32
  let v84 : BitVec 1 := Scalar.cmpi .eq v83 c6_i32_33
  let c1_i32_30 : BitVec 32 := 1#32
  let v78 : BitVec 32 := Scalar.addi v18 c1_i32_30
  let c5_i32_31 : BitVec 32 := 5#32
  let v79 : BitVec 1 := Scalar.cmpi .eq v78 c5_i32_31
  let c1_i32_28 : BitVec 32 := 1#32
  let v73 : BitVec 32 := Scalar.addi v18 c1_i32_28
  let c4_i32_29 : BitVec 32 := 4#32
  let v74 : BitVec 1 := Scalar.cmpi .eq v73 c4_i32_29
  let c1_i32_25 : BitVec 32 := 1#32
  let v68 : BitVec 32 := Scalar.addi v18 c1_i32_25
  let c3_i32_26 : BitVec 32 := 3#32
  let v69 : BitVec 1 := Scalar.cmpi .eq v68 c3_i32_26
  let c1_i32_23 : BitVec 32 := 1#32
  let v63 : BitVec 32 := Scalar.addi v18 c1_i32_23
  let c2_i32_24 : BitVec 32 := 2#32
  let v64 : BitVec 1 := Scalar.cmpi .eq v63 c2_i32_24
  let c1_i32_20 : BitVec 32 := 1#32
  let v58 : BitVec 32 := Scalar.addi v18 c1_i32_20
  let c1_i32_21 : BitVec 32 := 1#32
  let v59 : BitVec 1 := Scalar.cmpi .eq v58 c1_i32_21
  let c1_i32_16 : BitVec 32 := 1#32
  let v53 : BitVec 32 := Scalar.addi v18 c1_i32_16
  let c0_i32_17 : BitVec 32 := 0#32
  let v54 : BitVec 1 := Scalar.cmpi .eq v53 c0_i32_17
  let c0_i32_18 : BitVec 32 := 0#32
  let v55 : BitVec 32 := Scalar.select v54 v34 c0_i32_18
  let v60 : BitVec 32 := Scalar.select v59 v36 v55
  let v65 : BitVec 32 := Scalar.select v64 v38 v60
  let v70 : BitVec 32 := Scalar.select v69 v40 v65
  let v75 : BitVec 32 := Scalar.select v74 v42 v70
  let v80 : BitVec 32 := Scalar.select v79 v44 v75
  let v85 : BitVec 32 := Scalar.select v84 v46 v80
  let v90 : BitVec 32 := Scalar.select v89 v48 v85
  let v95 : BitVec 32 := Scalar.select v94 v50 v90
  let c8_i32 : BitVec 32 := 8#32
  let v91 : BitVec 1 := Scalar.cmpi .eq v18 c8_i32
  let c7_i32 : BitVec 32 := 7#32
  let v86 : BitVec 1 := Scalar.cmpi .eq v18 c7_i32
  let c6_i32 : BitVec 32 := 6#32
  let v81 : BitVec 1 := Scalar.cmpi .eq v18 c6_i32
  let c5_i32 : BitVec 32 := 5#32
  let v76 : BitVec 1 := Scalar.cmpi .eq v18 c5_i32
  let c4_i32_27 : BitVec 32 := 4#32
  let v71 : BitVec 1 := Scalar.cmpi .eq v18 c4_i32_27
  let c3_i32 : BitVec 32 := 3#32
  let v66 : BitVec 1 := Scalar.cmpi .eq v18 c3_i32
  let c2_i32_22 : BitVec 32 := 2#32
  let v61 : BitVec 1 := Scalar.cmpi .eq v18 c2_i32_22
  let c1_i32_19 : BitVec 32 := 1#32
  let v56 : BitVec 1 := Scalar.cmpi .eq v18 c1_i32_19
  let c0_i32_14 : BitVec 32 := 0#32
  let v51 : BitVec 1 := Scalar.cmpi .eq v18 c0_i32_14
  let c0_i32_15 : BitVec 32 := 0#32
  let v52 : BitVec 32 := Scalar.select v51 v34 c0_i32_15
  let v57 : BitVec 32 := Scalar.select v56 v36 v52
  let v62 : BitVec 32 := Scalar.select v61 v38 v57
  let v67 : BitVec 32 := Scalar.select v66 v40 v62
  let v72 : BitVec 32 := Scalar.select v71 v42 v67
  let v77 : BitVec 32 := Scalar.select v76 v44 v72
  let v82 : BitVec 32 := Scalar.select v81 v46 v77
  let v87 : BitVec 32 := Scalar.select v86 v48 v82
  let v92 : BitVec 32 := Scalar.select v91 v50 v87
  let v96 : BitVec 32 := Scalar.subi v95 v92
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v97 : BitVec 32 := Scalar.subi v96 v29
  let v98 : BitVec 32 := Scalar.maxsi c0_i32_38 v97
  let v99 : BitVec 32 := Scalar.minsi c512_i32_39 v98
  let c256_i32 : BitVec 32 := 256#32
  let v136 : BitVec 32 := Scalar.subi v99 c256_i32
  let v137 : BitVec 32 := Scalar.maxsi c0_i32_65 v136
  let v138 : BitVec 32 := Scalar.minsi c128_i32_66 v137
  let v173 : BitVec 1 := Scalar.cmpi .slt arg7 v138
  let v174 : BitVec 32 := Scalar.extui v173
  let c0_i32_94 : BitVec 32 := 0#32
  let v175 : BitVec 1 := Scalar.cmpi .ne v174 c0_i32_94
  v175

def k0_off34 (i : grid0.Coords) (k0_t4 : Fin k0_t4_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_68 : BitVec 32 := 512#32
  let v141 : BitVec 32 := Scalar.muli v1 c512_i32_68
  let c256_i32_69 : BitVec 32 := 256#32
  let v142 : BitVec 32 := Scalar.addi v141 c256_i32_69
  let c0_i32_90 : BitVec 32 := 0#32
  let c1_i32_92 : BitVec 32 := 1#32
  let arg7 : BitVec 32 := Scf.iv c0_i32_90 c1_i32_92 k0_t4
  let v179 : BitVec 32 := Scalar.addi v142 arg7
  let c0_i32_98_r33 : BitVec 32 := 0#32
  ![v179.toNat, 0]
def k0_off35 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_80 : BitVec 32 := 512#32
  let v159 : BitVec 32 := Scalar.muli v1 c512_i32_80
  let c384_i32_81 : BitVec 32 := 384#32
  let v160 : BitVec 32 := Scalar.addi v159 c384_i32_81
  let c0_i32_89_r34 : BitVec 32 := 0#32
  ![v160.toNat, 0]
def k0_off36 (i : grid0.Coords) (v34 : BitVec 32) (v36 : BitVec 32) (v38 : BitVec 32) (v40 : BitVec 32) (v42 : BitVec 32) (v44 : BitVec 32) (v46 : BitVec 32) (v48 : BitVec 32) (v50 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c8_i32 : BitVec 32 := 8#32
  let v91 : BitVec 1 := Scalar.cmpi .eq v18 c8_i32
  let c7_i32 : BitVec 32 := 7#32
  let v86 : BitVec 1 := Scalar.cmpi .eq v18 c7_i32
  let c6_i32 : BitVec 32 := 6#32
  let v81 : BitVec 1 := Scalar.cmpi .eq v18 c6_i32
  let c5_i32 : BitVec 32 := 5#32
  let v76 : BitVec 1 := Scalar.cmpi .eq v18 c5_i32
  let c4_i32_27 : BitVec 32 := 4#32
  let v71 : BitVec 1 := Scalar.cmpi .eq v18 c4_i32_27
  let c3_i32 : BitVec 32 := 3#32
  let v66 : BitVec 1 := Scalar.cmpi .eq v18 c3_i32
  let c2_i32_22 : BitVec 32 := 2#32
  let v61 : BitVec 1 := Scalar.cmpi .eq v18 c2_i32_22
  let c1_i32_19 : BitVec 32 := 1#32
  let v56 : BitVec 1 := Scalar.cmpi .eq v18 c1_i32_19
  let c0_i32_14 : BitVec 32 := 0#32
  let v51 : BitVec 1 := Scalar.cmpi .eq v18 c0_i32_14
  let c0_i32_15 : BitVec 32 := 0#32
  let v52 : BitVec 32 := Scalar.select v51 v34 c0_i32_15
  let v57 : BitVec 32 := Scalar.select v56 v36 v52
  let v62 : BitVec 32 := Scalar.select v61 v38 v57
  let v67 : BitVec 32 := Scalar.select v66 v40 v62
  let v72 : BitVec 32 := Scalar.select v71 v42 v67
  let v77 : BitVec 32 := Scalar.select v76 v44 v72
  let v82 : BitVec 32 := Scalar.select v81 v46 v77
  let v87 : BitVec 32 := Scalar.select v86 v48 v82
  let v92 : BitVec 32 := Scalar.select v91 v50 v87
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v157 : BitVec 32 := Scalar.addi v92 v29
  let c384_i32_79 : BitVec 32 := 384#32
  let v158 : BitVec 32 := Scalar.addi v157 c384_i32_79
  let c0_i32_90_r34 : BitVec 32 := 0#32
  ![v158.toNat, 0]
def k0_cond16 (i : grid0.Coords) (v34 : BitVec 32) (v36 : BitVec 32) (v38 : BitVec 32) (v40 : BitVec 32) (v42 : BitVec 32) (v44 : BitVec 32) (v46 : BitVec 32) (v48 : BitVec 32) (v50 : BitVec 32) : BitVec 1 :=
  let c128_i32_78 : BitVec 32 := 128#32
  let c0_i32_77 : BitVec 32 := 0#32
  let c512_i32_39 : BitVec 32 := 512#32
  let c0_i32_38 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c1_i32_36 : BitVec 32 := 1#32
  let v93 : BitVec 32 := Scalar.addi v18 c1_i32_36
  let c8_i32_37 : BitVec 32 := 8#32
  let v94 : BitVec 1 := Scalar.cmpi .eq v93 c8_i32_37
  let c1_i32_34 : BitVec 32 := 1#32
  let v88 : BitVec 32 := Scalar.addi v18 c1_i32_34
  let c7_i32_35 : BitVec 32 := 7#32
  let v89 : BitVec 1 := Scalar.cmpi .eq v88 c7_i32_35
  let c1_i32_32 : BitVec 32 := 1#32
  let v83 : BitVec 32 := Scalar.addi v18 c1_i32_32
  let c6_i32_33 : BitVec 32 := 6#32
  let v84 : BitVec 1 := Scalar.cmpi .eq v83 c6_i32_33
  let c1_i32_30 : BitVec 32 := 1#32
  let v78 : BitVec 32 := Scalar.addi v18 c1_i32_30
  let c5_i32_31 : BitVec 32 := 5#32
  let v79 : BitVec 1 := Scalar.cmpi .eq v78 c5_i32_31
  let c1_i32_28 : BitVec 32 := 1#32
  let v73 : BitVec 32 := Scalar.addi v18 c1_i32_28
  let c4_i32_29 : BitVec 32 := 4#32
  let v74 : BitVec 1 := Scalar.cmpi .eq v73 c4_i32_29
  let c1_i32_25 : BitVec 32 := 1#32
  let v68 : BitVec 32 := Scalar.addi v18 c1_i32_25
  let c3_i32_26 : BitVec 32 := 3#32
  let v69 : BitVec 1 := Scalar.cmpi .eq v68 c3_i32_26
  let c1_i32_23 : BitVec 32 := 1#32
  let v63 : BitVec 32 := Scalar.addi v18 c1_i32_23
  let c2_i32_24 : BitVec 32 := 2#32
  let v64 : BitVec 1 := Scalar.cmpi .eq v63 c2_i32_24
  let c1_i32_20 : BitVec 32 := 1#32
  let v58 : BitVec 32 := Scalar.addi v18 c1_i32_20
  let c1_i32_21 : BitVec 32 := 1#32
  let v59 : BitVec 1 := Scalar.cmpi .eq v58 c1_i32_21
  let c1_i32_16 : BitVec 32 := 1#32
  let v53 : BitVec 32 := Scalar.addi v18 c1_i32_16
  let c0_i32_17 : BitVec 32 := 0#32
  let v54 : BitVec 1 := Scalar.cmpi .eq v53 c0_i32_17
  let c0_i32_18 : BitVec 32 := 0#32
  let v55 : BitVec 32 := Scalar.select v54 v34 c0_i32_18
  let v60 : BitVec 32 := Scalar.select v59 v36 v55
  let v65 : BitVec 32 := Scalar.select v64 v38 v60
  let v70 : BitVec 32 := Scalar.select v69 v40 v65
  let v75 : BitVec 32 := Scalar.select v74 v42 v70
  let v80 : BitVec 32 := Scalar.select v79 v44 v75
  let v85 : BitVec 32 := Scalar.select v84 v46 v80
  let v90 : BitVec 32 := Scalar.select v89 v48 v85
  let v95 : BitVec 32 := Scalar.select v94 v50 v90
  let c8_i32 : BitVec 32 := 8#32
  let v91 : BitVec 1 := Scalar.cmpi .eq v18 c8_i32
  let c7_i32 : BitVec 32 := 7#32
  let v86 : BitVec 1 := Scalar.cmpi .eq v18 c7_i32
  let c6_i32 : BitVec 32 := 6#32
  let v81 : BitVec 1 := Scalar.cmpi .eq v18 c6_i32
  let c5_i32 : BitVec 32 := 5#32
  let v76 : BitVec 1 := Scalar.cmpi .eq v18 c5_i32
  let c4_i32_27 : BitVec 32 := 4#32
  let v71 : BitVec 1 := Scalar.cmpi .eq v18 c4_i32_27
  let c3_i32 : BitVec 32 := 3#32
  let v66 : BitVec 1 := Scalar.cmpi .eq v18 c3_i32
  let c2_i32_22 : BitVec 32 := 2#32
  let v61 : BitVec 1 := Scalar.cmpi .eq v18 c2_i32_22
  let c1_i32_19 : BitVec 32 := 1#32
  let v56 : BitVec 1 := Scalar.cmpi .eq v18 c1_i32_19
  let c0_i32_14 : BitVec 32 := 0#32
  let v51 : BitVec 1 := Scalar.cmpi .eq v18 c0_i32_14
  let c0_i32_15 : BitVec 32 := 0#32
  let v52 : BitVec 32 := Scalar.select v51 v34 c0_i32_15
  let v57 : BitVec 32 := Scalar.select v56 v36 v52
  let v62 : BitVec 32 := Scalar.select v61 v38 v57
  let v67 : BitVec 32 := Scalar.select v66 v40 v62
  let v72 : BitVec 32 := Scalar.select v71 v42 v67
  let v77 : BitVec 32 := Scalar.select v76 v44 v72
  let v82 : BitVec 32 := Scalar.select v81 v46 v77
  let v87 : BitVec 32 := Scalar.select v86 v48 v82
  let v92 : BitVec 32 := Scalar.select v91 v50 v87
  let v96 : BitVec 32 := Scalar.subi v95 v92
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v97 : BitVec 32 := Scalar.subi v96 v29
  let v98 : BitVec 32 := Scalar.maxsi c0_i32_38 v97
  let v99 : BitVec 32 := Scalar.minsi c512_i32_39 v98
  let c384_i32 : BitVec 32 := 384#32
  let v154 : BitVec 32 := Scalar.subi v99 c384_i32
  let v155 : BitVec 32 := Scalar.maxsi c0_i32_77 v154
  let v156 : BitVec 32 := Scalar.minsi c128_i32_78 v155
  let c128_i32_82 : BitVec 32 := 128#32
  let v161 : BitVec 1 := Scalar.cmpi .eq v156 c128_i32_82
  let v162 : BitVec 32 := Scalar.extui v161
  let c0_i32_83 : BitVec 32 := 0#32
  let v163 : BitVec 1 := Scalar.cmpi .ne v162 c0_i32_83
  v163

def k0_off37 (i : grid0.Coords) (c0_i32_89 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_80 : BitVec 32 := 512#32
  let v159 : BitVec 32 := Scalar.muli v1 c512_i32_80
  let c384_i32_81 : BitVec 32 := 384#32
  let v160 : BitVec 32 := Scalar.addi v159 c384_i32_81
  let v172 : BitVec 32 := Scalar.addi v160 c0_i32_89
  let c0_i32_91_r35 : BitVec 32 := 0#32
  ![v172.toNat, 0]
@[reducible] def k0_t5_loop : Scf.Loop 32 :=
  let c0_i32_90 : BitVec 32 := 0#32
  let c128_i32_91 : BitVec 32 := 128#32
  let v172 : BitVec 32 := Scalar.addi c0_i32_90 c128_i32_91
  let c1_i32_92 : BitVec 32 := 1#32
  ⟨c0_i32_90, v172, c1_i32_92⟩
def k0_off38 (i : grid0.Coords) (k0_t5 : Fin k0_t5_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_80 : BitVec 32 := 512#32
  let v159 : BitVec 32 := Scalar.muli v1 c512_i32_80
  let c384_i32_81 : BitVec 32 := 384#32
  let v160 : BitVec 32 := Scalar.addi v159 c384_i32_81
  let c0_i32_90 : BitVec 32 := 0#32
  let c1_i32_92 : BitVec 32 := 1#32
  let arg7 : BitVec 32 := Scf.iv c0_i32_90 c1_i32_92 k0_t5
  let v180 : BitVec 32 := Scalar.addi v160 arg7
  let c0_i32_96_r43 : BitVec 32 := 0#32
  ![v180.toNat, 0]
def k0_off39 (i : grid0.Coords) (v34 : BitVec 32) (v36 : BitVec 32) (v38 : BitVec 32) (v40 : BitVec 32) (v42 : BitVec 32) (v44 : BitVec 32) (v46 : BitVec 32) (v48 : BitVec 32) (v50 : BitVec 32) (k0_t5 : Fin k0_t5_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c8_i32 : BitVec 32 := 8#32
  let v91 : BitVec 1 := Scalar.cmpi .eq v18 c8_i32
  let c7_i32 : BitVec 32 := 7#32
  let v86 : BitVec 1 := Scalar.cmpi .eq v18 c7_i32
  let c6_i32 : BitVec 32 := 6#32
  let v81 : BitVec 1 := Scalar.cmpi .eq v18 c6_i32
  let c5_i32 : BitVec 32 := 5#32
  let v76 : BitVec 1 := Scalar.cmpi .eq v18 c5_i32
  let c4_i32_27 : BitVec 32 := 4#32
  let v71 : BitVec 1 := Scalar.cmpi .eq v18 c4_i32_27
  let c3_i32 : BitVec 32 := 3#32
  let v66 : BitVec 1 := Scalar.cmpi .eq v18 c3_i32
  let c2_i32_22 : BitVec 32 := 2#32
  let v61 : BitVec 1 := Scalar.cmpi .eq v18 c2_i32_22
  let c1_i32_19 : BitVec 32 := 1#32
  let v56 : BitVec 1 := Scalar.cmpi .eq v18 c1_i32_19
  let c0_i32_14 : BitVec 32 := 0#32
  let v51 : BitVec 1 := Scalar.cmpi .eq v18 c0_i32_14
  let c0_i32_15 : BitVec 32 := 0#32
  let v52 : BitVec 32 := Scalar.select v51 v34 c0_i32_15
  let v57 : BitVec 32 := Scalar.select v56 v36 v52
  let v62 : BitVec 32 := Scalar.select v61 v38 v57
  let v67 : BitVec 32 := Scalar.select v66 v40 v62
  let v72 : BitVec 32 := Scalar.select v71 v42 v67
  let v77 : BitVec 32 := Scalar.select v76 v44 v72
  let v82 : BitVec 32 := Scalar.select v81 v46 v77
  let v87 : BitVec 32 := Scalar.select v86 v48 v82
  let v92 : BitVec 32 := Scalar.select v91 v50 v87
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v157 : BitVec 32 := Scalar.addi v92 v29
  let c384_i32_79 : BitVec 32 := 384#32
  let v158 : BitVec 32 := Scalar.addi v157 c384_i32_79
  let c0_i32_90 : BitVec 32 := 0#32
  let c1_i32_92 : BitVec 32 := 1#32
  let arg7 : BitVec 32 := Scf.iv c0_i32_90 c1_i32_92 k0_t5
  let v179 : BitVec 32 := Scalar.addi v158 arg7
  let c0_i32_97_r43 : BitVec 32 := 0#32
  ![v179.toNat, 0]
def k0_cond18 (i : grid0.Coords) (v34 : BitVec 32) (v36 : BitVec 32) (v38 : BitVec 32) (v40 : BitVec 32) (v42 : BitVec 32) (v44 : BitVec 32) (v46 : BitVec 32) (v48 : BitVec 32) (v50 : BitVec 32) : BitVec 1 :=
  let c128_i32_78 : BitVec 32 := 128#32
  let c0_i32_77 : BitVec 32 := 0#32
  let c512_i32_39 : BitVec 32 := 512#32
  let c0_i32_38 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c1_i32_36 : BitVec 32 := 1#32
  let v93 : BitVec 32 := Scalar.addi v18 c1_i32_36
  let c8_i32_37 : BitVec 32 := 8#32
  let v94 : BitVec 1 := Scalar.cmpi .eq v93 c8_i32_37
  let c1_i32_34 : BitVec 32 := 1#32
  let v88 : BitVec 32 := Scalar.addi v18 c1_i32_34
  let c7_i32_35 : BitVec 32 := 7#32
  let v89 : BitVec 1 := Scalar.cmpi .eq v88 c7_i32_35
  let c1_i32_32 : BitVec 32 := 1#32
  let v83 : BitVec 32 := Scalar.addi v18 c1_i32_32
  let c6_i32_33 : BitVec 32 := 6#32
  let v84 : BitVec 1 := Scalar.cmpi .eq v83 c6_i32_33
  let c1_i32_30 : BitVec 32 := 1#32
  let v78 : BitVec 32 := Scalar.addi v18 c1_i32_30
  let c5_i32_31 : BitVec 32 := 5#32
  let v79 : BitVec 1 := Scalar.cmpi .eq v78 c5_i32_31
  let c1_i32_28 : BitVec 32 := 1#32
  let v73 : BitVec 32 := Scalar.addi v18 c1_i32_28
  let c4_i32_29 : BitVec 32 := 4#32
  let v74 : BitVec 1 := Scalar.cmpi .eq v73 c4_i32_29
  let c1_i32_25 : BitVec 32 := 1#32
  let v68 : BitVec 32 := Scalar.addi v18 c1_i32_25
  let c3_i32_26 : BitVec 32 := 3#32
  let v69 : BitVec 1 := Scalar.cmpi .eq v68 c3_i32_26
  let c1_i32_23 : BitVec 32 := 1#32
  let v63 : BitVec 32 := Scalar.addi v18 c1_i32_23
  let c2_i32_24 : BitVec 32 := 2#32
  let v64 : BitVec 1 := Scalar.cmpi .eq v63 c2_i32_24
  let c1_i32_20 : BitVec 32 := 1#32
  let v58 : BitVec 32 := Scalar.addi v18 c1_i32_20
  let c1_i32_21 : BitVec 32 := 1#32
  let v59 : BitVec 1 := Scalar.cmpi .eq v58 c1_i32_21
  let c1_i32_16 : BitVec 32 := 1#32
  let v53 : BitVec 32 := Scalar.addi v18 c1_i32_16
  let c0_i32_17 : BitVec 32 := 0#32
  let v54 : BitVec 1 := Scalar.cmpi .eq v53 c0_i32_17
  let c0_i32_18 : BitVec 32 := 0#32
  let v55 : BitVec 32 := Scalar.select v54 v34 c0_i32_18
  let v60 : BitVec 32 := Scalar.select v59 v36 v55
  let v65 : BitVec 32 := Scalar.select v64 v38 v60
  let v70 : BitVec 32 := Scalar.select v69 v40 v65
  let v75 : BitVec 32 := Scalar.select v74 v42 v70
  let v80 : BitVec 32 := Scalar.select v79 v44 v75
  let v85 : BitVec 32 := Scalar.select v84 v46 v80
  let v90 : BitVec 32 := Scalar.select v89 v48 v85
  let v95 : BitVec 32 := Scalar.select v94 v50 v90
  let c8_i32 : BitVec 32 := 8#32
  let v91 : BitVec 1 := Scalar.cmpi .eq v18 c8_i32
  let c7_i32 : BitVec 32 := 7#32
  let v86 : BitVec 1 := Scalar.cmpi .eq v18 c7_i32
  let c6_i32 : BitVec 32 := 6#32
  let v81 : BitVec 1 := Scalar.cmpi .eq v18 c6_i32
  let c5_i32 : BitVec 32 := 5#32
  let v76 : BitVec 1 := Scalar.cmpi .eq v18 c5_i32
  let c4_i32_27 : BitVec 32 := 4#32
  let v71 : BitVec 1 := Scalar.cmpi .eq v18 c4_i32_27
  let c3_i32 : BitVec 32 := 3#32
  let v66 : BitVec 1 := Scalar.cmpi .eq v18 c3_i32
  let c2_i32_22 : BitVec 32 := 2#32
  let v61 : BitVec 1 := Scalar.cmpi .eq v18 c2_i32_22
  let c1_i32_19 : BitVec 32 := 1#32
  let v56 : BitVec 1 := Scalar.cmpi .eq v18 c1_i32_19
  let c0_i32_14 : BitVec 32 := 0#32
  let v51 : BitVec 1 := Scalar.cmpi .eq v18 c0_i32_14
  let c0_i32_15 : BitVec 32 := 0#32
  let v52 : BitVec 32 := Scalar.select v51 v34 c0_i32_15
  let v57 : BitVec 32 := Scalar.select v56 v36 v52
  let v62 : BitVec 32 := Scalar.select v61 v38 v57
  let v67 : BitVec 32 := Scalar.select v66 v40 v62
  let v72 : BitVec 32 := Scalar.select v71 v42 v67
  let v77 : BitVec 32 := Scalar.select v76 v44 v72
  let v82 : BitVec 32 := Scalar.select v81 v46 v77
  let v87 : BitVec 32 := Scalar.select v86 v48 v82
  let v92 : BitVec 32 := Scalar.select v91 v50 v87
  let v96 : BitVec 32 := Scalar.subi v95 v92
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v97 : BitVec 32 := Scalar.subi v96 v29
  let v98 : BitVec 32 := Scalar.maxsi c0_i32_38 v97
  let v99 : BitVec 32 := Scalar.minsi c512_i32_39 v98
  let c384_i32 : BitVec 32 := 384#32
  let v154 : BitVec 32 := Scalar.subi v99 c384_i32
  let v155 : BitVec 32 := Scalar.maxsi c0_i32_77 v154
  let v156 : BitVec 32 := Scalar.minsi c128_i32_78 v155
  let c0_i32_86 : BitVec 32 := 0#32
  let v167 : BitVec 1 := Scalar.cmpi .sgt v156 c0_i32_86
  let c128_i32_87 : BitVec 32 := 128#32
  let v168 : BitVec 1 := Scalar.cmpi .slt v156 c128_i32_87
  let v169 : BitVec 1 := Scalar.andi v167 v168
  let v170 : BitVec 32 := Scalar.extui v169
  let c0_i32_88 : BitVec 32 := 0#32
  let v171 : BitVec 1 := Scalar.cmpi .ne v170 c0_i32_88
  v171

def k0_cond19 (i : grid0.Coords) (v34 : BitVec 32) (v36 : BitVec 32) (v38 : BitVec 32) (v40 : BitVec 32) (v42 : BitVec 32) (v44 : BitVec 32) (v46 : BitVec 32) (v48 : BitVec 32) (v50 : BitVec 32) (k0_t5 : Fin k0_t5_loop.trips) : BitVec 1 :=
  let c0_i32_90 : BitVec 32 := 0#32
  let c1_i32_92 : BitVec 32 := 1#32
  let arg7 : BitVec 32 := Scf.iv c0_i32_90 c1_i32_92 k0_t5
  let c128_i32_78 : BitVec 32 := 128#32
  let c0_i32_77 : BitVec 32 := 0#32
  let c512_i32_39 : BitVec 32 := 512#32
  let c0_i32_38 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c1_i32_36 : BitVec 32 := 1#32
  let v93 : BitVec 32 := Scalar.addi v18 c1_i32_36
  let c8_i32_37 : BitVec 32 := 8#32
  let v94 : BitVec 1 := Scalar.cmpi .eq v93 c8_i32_37
  let c1_i32_34 : BitVec 32 := 1#32
  let v88 : BitVec 32 := Scalar.addi v18 c1_i32_34
  let c7_i32_35 : BitVec 32 := 7#32
  let v89 : BitVec 1 := Scalar.cmpi .eq v88 c7_i32_35
  let c1_i32_32 : BitVec 32 := 1#32
  let v83 : BitVec 32 := Scalar.addi v18 c1_i32_32
  let c6_i32_33 : BitVec 32 := 6#32
  let v84 : BitVec 1 := Scalar.cmpi .eq v83 c6_i32_33
  let c1_i32_30 : BitVec 32 := 1#32
  let v78 : BitVec 32 := Scalar.addi v18 c1_i32_30
  let c5_i32_31 : BitVec 32 := 5#32
  let v79 : BitVec 1 := Scalar.cmpi .eq v78 c5_i32_31
  let c1_i32_28 : BitVec 32 := 1#32
  let v73 : BitVec 32 := Scalar.addi v18 c1_i32_28
  let c4_i32_29 : BitVec 32 := 4#32
  let v74 : BitVec 1 := Scalar.cmpi .eq v73 c4_i32_29
  let c1_i32_25 : BitVec 32 := 1#32
  let v68 : BitVec 32 := Scalar.addi v18 c1_i32_25
  let c3_i32_26 : BitVec 32 := 3#32
  let v69 : BitVec 1 := Scalar.cmpi .eq v68 c3_i32_26
  let c1_i32_23 : BitVec 32 := 1#32
  let v63 : BitVec 32 := Scalar.addi v18 c1_i32_23
  let c2_i32_24 : BitVec 32 := 2#32
  let v64 : BitVec 1 := Scalar.cmpi .eq v63 c2_i32_24
  let c1_i32_20 : BitVec 32 := 1#32
  let v58 : BitVec 32 := Scalar.addi v18 c1_i32_20
  let c1_i32_21 : BitVec 32 := 1#32
  let v59 : BitVec 1 := Scalar.cmpi .eq v58 c1_i32_21
  let c1_i32_16 : BitVec 32 := 1#32
  let v53 : BitVec 32 := Scalar.addi v18 c1_i32_16
  let c0_i32_17 : BitVec 32 := 0#32
  let v54 : BitVec 1 := Scalar.cmpi .eq v53 c0_i32_17
  let c0_i32_18 : BitVec 32 := 0#32
  let v55 : BitVec 32 := Scalar.select v54 v34 c0_i32_18
  let v60 : BitVec 32 := Scalar.select v59 v36 v55
  let v65 : BitVec 32 := Scalar.select v64 v38 v60
  let v70 : BitVec 32 := Scalar.select v69 v40 v65
  let v75 : BitVec 32 := Scalar.select v74 v42 v70
  let v80 : BitVec 32 := Scalar.select v79 v44 v75
  let v85 : BitVec 32 := Scalar.select v84 v46 v80
  let v90 : BitVec 32 := Scalar.select v89 v48 v85
  let v95 : BitVec 32 := Scalar.select v94 v50 v90
  let c8_i32 : BitVec 32 := 8#32
  let v91 : BitVec 1 := Scalar.cmpi .eq v18 c8_i32
  let c7_i32 : BitVec 32 := 7#32
  let v86 : BitVec 1 := Scalar.cmpi .eq v18 c7_i32
  let c6_i32 : BitVec 32 := 6#32
  let v81 : BitVec 1 := Scalar.cmpi .eq v18 c6_i32
  let c5_i32 : BitVec 32 := 5#32
  let v76 : BitVec 1 := Scalar.cmpi .eq v18 c5_i32
  let c4_i32_27 : BitVec 32 := 4#32
  let v71 : BitVec 1 := Scalar.cmpi .eq v18 c4_i32_27
  let c3_i32 : BitVec 32 := 3#32
  let v66 : BitVec 1 := Scalar.cmpi .eq v18 c3_i32
  let c2_i32_22 : BitVec 32 := 2#32
  let v61 : BitVec 1 := Scalar.cmpi .eq v18 c2_i32_22
  let c1_i32_19 : BitVec 32 := 1#32
  let v56 : BitVec 1 := Scalar.cmpi .eq v18 c1_i32_19
  let c0_i32_14 : BitVec 32 := 0#32
  let v51 : BitVec 1 := Scalar.cmpi .eq v18 c0_i32_14
  let c0_i32_15 : BitVec 32 := 0#32
  let v52 : BitVec 32 := Scalar.select v51 v34 c0_i32_15
  let v57 : BitVec 32 := Scalar.select v56 v36 v52
  let v62 : BitVec 32 := Scalar.select v61 v38 v57
  let v67 : BitVec 32 := Scalar.select v66 v40 v62
  let v72 : BitVec 32 := Scalar.select v71 v42 v67
  let v77 : BitVec 32 := Scalar.select v76 v44 v72
  let v82 : BitVec 32 := Scalar.select v81 v46 v77
  let v87 : BitVec 32 := Scalar.select v86 v48 v82
  let v92 : BitVec 32 := Scalar.select v91 v50 v87
  let v96 : BitVec 32 := Scalar.subi v95 v92
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v97 : BitVec 32 := Scalar.subi v96 v29
  let v98 : BitVec 32 := Scalar.maxsi c0_i32_38 v97
  let v99 : BitVec 32 := Scalar.minsi c512_i32_39 v98
  let c384_i32 : BitVec 32 := 384#32
  let v154 : BitVec 32 := Scalar.subi v99 c384_i32
  let v155 : BitVec 32 := Scalar.maxsi c0_i32_77 v154
  let v156 : BitVec 32 := Scalar.minsi c128_i32_78 v155
  let v173 : BitVec 1 := Scalar.cmpi .slt arg7 v156
  let v174 : BitVec 32 := Scalar.extui v173
  let c0_i32_94 : BitVec 32 := 0#32
  let v175 : BitVec 1 := Scalar.cmpi .ne v174 c0_i32_94
  v175

def k0_chk1 (i : grid0.Coords) (v34 : BitVec 32) (v36 : BitVec 32) (v38 : BitVec 32) (v40 : BitVec 32) (v42 : BitVec 32) (v44 : BitVec 32) (v46 : BitVec 32) (v48 : BitVec 32) (v50 : BitVec 32) : Prop :=
  (∀ (k0_h1 : k0_cond1 i v34 v36 v38 v40 v42 v44 v46 v48 v50 = 1#1), ∀ a, (k0_off18 i v34 v36 v38 v40 v42 v44 v46 v48 v50) a + S128x512.size a ≤ S8192x512.size a) ∧
  (∀ k0_t2 : Fin k0_t2_loop.trips, ∀ (k0_h3 : k0_cond3 i v34 v36 v38 v40 v42 v44 v46 v48 v50 = 1#1), ∀ (k0_h4 : k0_cond4 i v34 v36 v38 v40 v42 v44 v46 v48 v50 k0_t2 = 1#1), ∀ a, (k0_off21 i v34 v36 v38 v40 v42 v44 v46 v48 v50 k0_t2) a + S1x512.size a ≤ S8192x512.size a) ∧
  (∀ (k0_h6 : k0_cond6 i v34 v36 v38 v40 v42 v44 v46 v48 v50 = 1#1), ∀ a, (k0_off24 i v34 v36 v38 v40 v42 v44 v46 v48 v50) a + S128x512.size a ≤ S8192x512.size a) ∧
  (∀ k0_t3 : Fin k0_t3_loop.trips, ∀ (k0_h8 : k0_cond8 i v34 v36 v38 v40 v42 v44 v46 v48 v50 = 1#1), ∀ (k0_h9 : k0_cond9 i v34 v36 v38 v40 v42 v44 v46 v48 v50 k0_t3 = 1#1), ∀ a, (k0_off27 i v34 v36 v38 v40 v42 v44 v46 v48 v50 k0_t3) a + S1x512.size a ≤ S8192x512.size a) ∧
  (∀ (k0_h11 : k0_cond11 i v34 v36 v38 v40 v42 v44 v46 v48 v50 = 1#1), ∀ a, (k0_off30 i v34 v36 v38 v40 v42 v44 v46 v48 v50) a + S128x512.size a ≤ S8192x512.size a) ∧
  (∀ k0_t4 : Fin k0_t4_loop.trips, ∀ (k0_h13 : k0_cond13 i v34 v36 v38 v40 v42 v44 v46 v48 v50 = 1#1), ∀ (k0_h14 : k0_cond14 i v34 v36 v38 v40 v42 v44 v46 v48 v50 k0_t4 = 1#1), ∀ a, (k0_off33 i v34 v36 v38 v40 v42 v44 v46 v48 v50 k0_t4) a + S1x512.size a ≤ S8192x512.size a) ∧
  (∀ (k0_h16 : k0_cond16 i v34 v36 v38 v40 v42 v44 v46 v48 v50 = 1#1), ∀ a, (k0_off36 i v34 v36 v38 v40 v42 v44 v46 v48 v50) a + S128x512.size a ≤ S8192x512.size a) ∧
  (∀ k0_t5 : Fin k0_t5_loop.trips, ∀ (k0_h18 : k0_cond18 i v34 v36 v38 v40 v42 v44 v46 v48 v50 = 1#1), ∀ (k0_h19 : k0_cond19 i v34 v36 v38 v40 v42 v44 v46 v48 v50 k0_t5 = 1#1), ∀ a, (k0_off39 i v34 v36 v38 v40 v42 v44 v46 v48 v50 k0_t5) a + S1x512.size a ≤ S8192x512.size a)
theorem k0_off18_inb : ∀ (i : grid0.Coords) (v34 : BitVec 32) (v36 : BitVec 32) (v38 : BitVec 32) (v40 : BitVec 32) (v42 : BitVec 32) (v44 : BitVec 32) (v46 : BitVec 32) (v48 : BitVec 32) (v50 : BitVec 32) (k0_hw1 : k0_chk1 i v34 v36 v38 v40 v42 v44 v46 v48 v50), ∀ (k0_h1 : k0_cond1 i v34 v36 v38 v40 v42 v44 v46 v48 v50 = 1#1), ∀ a, (k0_off18 i v34 v36 v38 v40 v42 v44 v46 v48 v50) a + S128x512.size a ≤ S8192x512.size a := fun i v34 v36 v38 v40 v42 v44 v46 v48 v50 k0_hw1 k0_h1 => k0_hw1.1 k0_h1
theorem k0_off21_inb : ∀ (i : grid0.Coords) (v34 : BitVec 32) (v36 : BitVec 32) (v38 : BitVec 32) (v40 : BitVec 32) (v42 : BitVec 32) (v44 : BitVec 32) (v46 : BitVec 32) (v48 : BitVec 32) (v50 : BitVec 32) (k0_hw1 : k0_chk1 i v34 v36 v38 v40 v42 v44 v46 v48 v50) (k0_t2 : Fin k0_t2_loop.trips), ∀ (k0_h3 : k0_cond3 i v34 v36 v38 v40 v42 v44 v46 v48 v50 = 1#1), ∀ (k0_h4 : k0_cond4 i v34 v36 v38 v40 v42 v44 v46 v48 v50 k0_t2 = 1#1), ∀ a, (k0_off21 i v34 v36 v38 v40 v42 v44 v46 v48 v50 k0_t2) a + S1x512.size a ≤ S8192x512.size a := fun i v34 v36 v38 v40 v42 v44 v46 v48 v50 k0_hw1 k0_t2 k0_h3 k0_h4 => k0_hw1.2.1 k0_t2 k0_h3 k0_h4
theorem k0_off24_inb : ∀ (i : grid0.Coords) (v34 : BitVec 32) (v36 : BitVec 32) (v38 : BitVec 32) (v40 : BitVec 32) (v42 : BitVec 32) (v44 : BitVec 32) (v46 : BitVec 32) (v48 : BitVec 32) (v50 : BitVec 32) (k0_hw1 : k0_chk1 i v34 v36 v38 v40 v42 v44 v46 v48 v50), ∀ (k0_h6 : k0_cond6 i v34 v36 v38 v40 v42 v44 v46 v48 v50 = 1#1), ∀ a, (k0_off24 i v34 v36 v38 v40 v42 v44 v46 v48 v50) a + S128x512.size a ≤ S8192x512.size a := fun i v34 v36 v38 v40 v42 v44 v46 v48 v50 k0_hw1 k0_h6 => k0_hw1.2.2.1 k0_h6
theorem k0_off27_inb : ∀ (i : grid0.Coords) (v34 : BitVec 32) (v36 : BitVec 32) (v38 : BitVec 32) (v40 : BitVec 32) (v42 : BitVec 32) (v44 : BitVec 32) (v46 : BitVec 32) (v48 : BitVec 32) (v50 : BitVec 32) (k0_hw1 : k0_chk1 i v34 v36 v38 v40 v42 v44 v46 v48 v50) (k0_t3 : Fin k0_t3_loop.trips), ∀ (k0_h8 : k0_cond8 i v34 v36 v38 v40 v42 v44 v46 v48 v50 = 1#1), ∀ (k0_h9 : k0_cond9 i v34 v36 v38 v40 v42 v44 v46 v48 v50 k0_t3 = 1#1), ∀ a, (k0_off27 i v34 v36 v38 v40 v42 v44 v46 v48 v50 k0_t3) a + S1x512.size a ≤ S8192x512.size a := fun i v34 v36 v38 v40 v42 v44 v46 v48 v50 k0_hw1 k0_t3 k0_h8 k0_h9 => k0_hw1.2.2.2.1 k0_t3 k0_h8 k0_h9
theorem k0_off30_inb : ∀ (i : grid0.Coords) (v34 : BitVec 32) (v36 : BitVec 32) (v38 : BitVec 32) (v40 : BitVec 32) (v42 : BitVec 32) (v44 : BitVec 32) (v46 : BitVec 32) (v48 : BitVec 32) (v50 : BitVec 32) (k0_hw1 : k0_chk1 i v34 v36 v38 v40 v42 v44 v46 v48 v50), ∀ (k0_h11 : k0_cond11 i v34 v36 v38 v40 v42 v44 v46 v48 v50 = 1#1), ∀ a, (k0_off30 i v34 v36 v38 v40 v42 v44 v46 v48 v50) a + S128x512.size a ≤ S8192x512.size a := fun i v34 v36 v38 v40 v42 v44 v46 v48 v50 k0_hw1 k0_h11 => k0_hw1.2.2.2.2.1 k0_h11
theorem k0_off33_inb : ∀ (i : grid0.Coords) (v34 : BitVec 32) (v36 : BitVec 32) (v38 : BitVec 32) (v40 : BitVec 32) (v42 : BitVec 32) (v44 : BitVec 32) (v46 : BitVec 32) (v48 : BitVec 32) (v50 : BitVec 32) (k0_hw1 : k0_chk1 i v34 v36 v38 v40 v42 v44 v46 v48 v50) (k0_t4 : Fin k0_t4_loop.trips), ∀ (k0_h13 : k0_cond13 i v34 v36 v38 v40 v42 v44 v46 v48 v50 = 1#1), ∀ (k0_h14 : k0_cond14 i v34 v36 v38 v40 v42 v44 v46 v48 v50 k0_t4 = 1#1), ∀ a, (k0_off33 i v34 v36 v38 v40 v42 v44 v46 v48 v50 k0_t4) a + S1x512.size a ≤ S8192x512.size a := fun i v34 v36 v38 v40 v42 v44 v46 v48 v50 k0_hw1 k0_t4 k0_h13 k0_h14 => k0_hw1.2.2.2.2.2.1 k0_t4 k0_h13 k0_h14
theorem k0_off36_inb : ∀ (i : grid0.Coords) (v34 : BitVec 32) (v36 : BitVec 32) (v38 : BitVec 32) (v40 : BitVec 32) (v42 : BitVec 32) (v44 : BitVec 32) (v46 : BitVec 32) (v48 : BitVec 32) (v50 : BitVec 32) (k0_hw1 : k0_chk1 i v34 v36 v38 v40 v42 v44 v46 v48 v50), ∀ (k0_h16 : k0_cond16 i v34 v36 v38 v40 v42 v44 v46 v48 v50 = 1#1), ∀ a, (k0_off36 i v34 v36 v38 v40 v42 v44 v46 v48 v50) a + S128x512.size a ≤ S8192x512.size a := fun i v34 v36 v38 v40 v42 v44 v46 v48 v50 k0_hw1 k0_h16 => k0_hw1.2.2.2.2.2.2.1 k0_h16
theorem k0_off39_inb : ∀ (i : grid0.Coords) (v34 : BitVec 32) (v36 : BitVec 32) (v38 : BitVec 32) (v40 : BitVec 32) (v42 : BitVec 32) (v44 : BitVec 32) (v46 : BitVec 32) (v48 : BitVec 32) (v50 : BitVec 32) (k0_hw1 : k0_chk1 i v34 v36 v38 v40 v42 v44 v46 v48 v50) (k0_t5 : Fin k0_t5_loop.trips), ∀ (k0_h18 : k0_cond18 i v34 v36 v38 v40 v42 v44 v46 v48 v50 = 1#1), ∀ (k0_h19 : k0_cond19 i v34 v36 v38 v40 v42 v44 v46 v48 v50 k0_t5 = 1#1), ∀ a, (k0_off39 i v34 v36 v38 v40 v42 v44 v46 v48 v50 k0_t5) a + S1x512.size a ≤ S8192x512.size a := fun i v34 v36 v38 v40 v42 v44 v46 v48 v50 k0_hw1 k0_t5 k0_h18 k0_h19 => k0_hw1.2.2.2.2.2.2.2 k0_t5 k0_h18 k0_h19

def k0_off40 (i : grid0.Coords) (k0_t5 : Fin k0_t5_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_80 : BitVec 32 := 512#32
  let v159 : BitVec 32 := Scalar.muli v1 c512_i32_80
  let c384_i32_81 : BitVec 32 := 384#32
  let v160 : BitVec 32 := Scalar.addi v159 c384_i32_81
  let c0_i32_90 : BitVec 32 := 0#32
  let c1_i32_92 : BitVec 32 := 1#32
  let arg7 : BitVec 32 := Scf.iv c0_i32_90 c1_i32_92 k0_t5
  let v179 : BitVec 32 := Scalar.addi v160 arg7
  let c0_i32_98_r44 : BitVec 32 := 0#32
  ![v179.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8192x512 : Shape := ⟨2, ![8192, 512]⟩
abbrev S9 : Shape := ⟨1, ![9]⟩
abbrev S8192 : Shape := ⟨1, ![8192]⟩
abbrev S1x9 : Shape := ⟨2, ![1, 9]⟩
abbrev S8192x1 : Shape := ⟨2, ![8192, 1]⟩
abbrev S8192x9 : Shape := ⟨2, ![8192, 9]⟩
abbrev S_ : Shape := ⟨0, ![]⟩
abbrev S8x2048x512 : Shape := ⟨3, ![8, 2048, 512]⟩
abbrev S8192x2 : Shape := ⟨2, ![8192, 2]⟩

abbrev nBuf : Space → Nat
  | .hbm => 44
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S9, .i32⟩
  | .hbm, ⟨2, _⟩ => ⟨S8192, .i32⟩
  | .hbm, ⟨3, _⟩ => ⟨S1x9, .i32⟩
  | .hbm, ⟨4, _⟩ => ⟨S8192x1, .i32⟩
  | .hbm, ⟨5, _⟩ => ⟨S8192x9, .i32⟩
  | .hbm, ⟨6, _⟩ => ⟨S8192x9, .i32⟩
  | .hbm, ⟨7, _⟩ => ⟨S8192x9, .i1⟩
  | .hbm, ⟨8, _⟩ => ⟨S8192x9, .i32⟩
  | .hbm, ⟨9, _⟩ => ⟨S_, .i32⟩
  | .hbm, ⟨10, _⟩ => ⟨S8192, .i32⟩
  | .hbm, ⟨11, _⟩ => ⟨S_, .i32⟩
  | .hbm, ⟨12, _⟩ => ⟨S8192, .i32⟩
  | .hbm, ⟨13, _⟩ => ⟨S8192, .i32⟩
  | .hbm, ⟨14, _⟩ => ⟨S_, .i32⟩
  | .hbm, ⟨15, _⟩ => ⟨S8192, .i32⟩
  | .hbm, ⟨16, _⟩ => ⟨S8192, .i1⟩
  | .hbm, ⟨17, _⟩ => ⟨S_, .i32⟩
  | .hbm, ⟨18, _⟩ => ⟨S8192, .i32⟩
  | .hbm, ⟨19, _⟩ => ⟨S8192, .i32⟩
  | .hbm, ⟨20, _⟩ => ⟨S8192, .i32⟩
  | .hbm, ⟨21, _⟩ => ⟨S8192x1, .i32⟩
  | .hbm, ⟨22, _⟩ => ⟨S8192, .i32⟩
  | .hbm, ⟨23, _⟩ => ⟨S8192, .i32⟩
  | .hbm, ⟨24, _⟩ => ⟨S_, .f32⟩
  | .hbm, ⟨25, _⟩ => ⟨S8x2048x512, .f32⟩
  | .hbm, ⟨26, _⟩ => ⟨S_, .i32⟩
  | .hbm, ⟨27, _⟩ => ⟨S8192, .i32⟩
  | .hbm, ⟨28, _⟩ => ⟨S8192, .i1⟩
  | .hbm, ⟨29, _⟩ => ⟨S_, .i32⟩
  | .hbm, ⟨30, _⟩ => ⟨S8192, .i32⟩
  | .hbm, ⟨31, _⟩ => ⟨S8192, .i32⟩
  | .hbm, ⟨32, _⟩ => ⟨S8192, .i32⟩
  | .hbm, ⟨33, _⟩ => ⟨S_, .i32⟩
  | .hbm, ⟨34, _⟩ => ⟨S8192, .i32⟩
  | .hbm, ⟨35, _⟩ => ⟨S8192, .i1⟩
  | .hbm, ⟨36, _⟩ => ⟨S_, .i32⟩
  | .hbm, ⟨37, _⟩ => ⟨S8192, .i32⟩
  | .hbm, ⟨38, _⟩ => ⟨S8192, .i32⟩
  | .hbm, ⟨39, _⟩ => ⟨S8192, .i32⟩
  | .hbm, ⟨40, _⟩ => ⟨S8192x1, .i32⟩
  | .hbm, ⟨41, _⟩ => ⟨S8192x1, .i32⟩
  | .hbm, ⟨42, _⟩ => ⟨S8192x2, .i32⟩
  | .hbm, ⟨43, _⟩ => ⟨S8x2048x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_c_0 : Ref sig .tc := ⟨.hbm, 11, rfl⟩
abbrev main_v8 : Ref sig .tc := ⟨.hbm, 12, rfl⟩
abbrev main_v9 : Ref sig .tc := ⟨.hbm, 13, rfl⟩
abbrev main_c_1 : Ref sig .tc := ⟨.hbm, 14, rfl⟩
abbrev main_v10 : Ref sig .tc := ⟨.hbm, 15, rfl⟩
abbrev main_v11 : Ref sig .tc := ⟨.hbm, 16, rfl⟩
abbrev main_c_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_v18 : Ref sig .tc := ⟨.hbm, 25, rfl⟩
abbrev main_c_3 : Ref sig .tc := ⟨.hbm, 26, rfl⟩
abbrev main_v19 : Ref sig .tc := ⟨.hbm, 27, rfl⟩
abbrev main_v20 : Ref sig .tc := ⟨.hbm, 28, rfl⟩
abbrev main_c_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_5 : Ref sig .tc := ⟨.hbm, 33, rfl⟩
abbrev main_v24 : Ref sig .tc := ⟨.hbm, 34, rfl⟩
abbrev main_v25 : Ref sig .tc := ⟨.hbm, 35, rfl⟩
abbrev main_c_6 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Proof.IdealWords.lean ====
module

public import proofs.«01_k».proof.Proof.Frame
public import proofs.«01_k».proof.Proof.Gen.KernelIdeal
public import Idealize.ShloMosaic.Lib.Affine

@[expose] public section

set_option maxRecDepth 16384

/-! # The kernel's index words
What a tile's conditions, copy lengths and data-dependent row offsets are as natural numbers, once every
boundary word lies between 0 and 8192. -/

namespace Cert.Proof.KernelIdeal

open Idealize.ShloMosaic Cert.KernelIdeal

/-- The batch entry a tile writes into. -/
def seg (i : grid0.Coords) : Nat := (2 * (i 1).val + (i 0).val) / 4

/-- The first position within the entry that the tile writes. -/
def base (i : grid0.Coords) : Nat := (2 * (i 1).val + (i 0).val) % 4 * 512

/-- There are eight segments. -/
theorem seg_lt (i : grid0.Coords) : seg i < 8 := by
  have h1 : (i 1).val < 16 := (i 1).isLt
  have h0 : (i 0).val < 2 := (i 0).isLt
  unfold seg; omega

/-- The word at the tile's segment. -/
def lo (i : grid0.Coords) (w : Fin 9 → BitVec 32) : Nat := (w ⟨seg i, by have := seg_lt i; omega⟩).toNat

/-- The word after it. -/
def hi (i : grid0.Coords) (w : Fin 9 → BitVec 32) : Nat := (w ⟨seg i + 1, by have := seg_lt i; omega⟩).toNat

/-- How many rows of the chunk starting at `k` hold tokens. -/
def cnt (i : grid0.Coords) (w : Fin 9 → BitVec 32) (k : Nat) : Nat := min 128 (hi i w - lo i w - base i - k)

/-- Every boundary word lies between 0 and the number of tokens. -/
def Rng (w : Fin 9 → BitVec 32) : Prop := ∀ j, (w j).toNat ≤ 8192

/-- The segment number as the kernel computes it from the tile number. -/
def segW (v1 : BitVec 32) : BitVec 32 :=
  Scalar.select (Scalar.andi (Scalar.cmpi .ne (Scalar.subi (Scalar.extui (Scalar.cmpi .sgt v1 0#32)) (Scalar.extui (Scalar.cmpi .slt v1 0#32)))
      (Scalar.subi (Scalar.extui (Scalar.cmpi .sgt 4#32 0#32)) (Scalar.extui (Scalar.cmpi .slt 4#32 0#32))))
    (Scalar.cmpi .ne (Scalar.remsi v1 4#32) 0#32)) (Scalar.subi (Scalar.divsi v1 4#32) 1#32) (Scalar.divsi v1 4#32)

/-- The tile's start within its segment as the kernel computes it. -/
def baseW (v1 : BitVec 32) : BitVec 32 :=
  let v20 := Scalar.select (Scalar.cmpi .eq 4#32 0#32) 1#32 4#32
  let v21 := Scalar.remsi v1 v20
  Scalar.muli (Scalar.select (Scalar.andi (Scalar.xori (Scalar.cmpi .slt v21 0#32) (Scalar.cmpi .slt v20 0#32)) (Scalar.cmpi .ne v21 0#32))
    (Scalar.addi v21 v20) v21) 512#32

/-- The tile number as the kernel computes it. -/
def widW (i : grid0.Coords) : BitVec 32 := Scalar.addi (Scalar.muli (BitVec.ofNat 32 (i 1).val) 2#32) (BitVec.ofNat 32 (i 0).val)

/-- The chain of selects that picks the word at `b`. -/
def loW (b : BitVec 32) (w : Fin 9 → BitVec 32) : BitVec 32 :=
  Scalar.select (Scalar.cmpi .eq b 8#32) (w 8) <| Scalar.select (Scalar.cmpi .eq b 7#32) (w 7) <|
  Scalar.select (Scalar.cmpi .eq b 6#32) (w 6) <| Scalar.select (Scalar.cmpi .eq b 5#32) (w 5) <|
  Scalar.select (Scalar.cmpi .eq b 4#32) (w 4) <| Scalar.select (Scalar.cmpi .eq b 3#32) (w 3) <|
  Scalar.select (Scalar.cmpi .eq b 2#32) (w 2) <| Scalar.select (Scalar.cmpi .eq b 1#32) (w 1) <|
  Scalar.select (Scalar.cmpi .eq b 0#32) (w 0) 0#32

/-- The chunk length word. -/
def cntW (i : grid0.Coords) (w : Fin 9 → BitVec 32) (k : BitVec 32) : BitVec 32 :=
  Scalar.minsi 128#32 (Scalar.maxsi 0#32 (Scalar.subi (Scalar.minsi 512#32 (Scalar.maxsi 0#32
    (Scalar.subi (Scalar.subi (loW (Scalar.addi (segW (widW i)) 1#32) w) (loW (segW (widW i)) w)) (baseW (widW i))))) k))

/-- The source row word. -/
def srcW (i : grid0.Coords) (w : Fin 9 → BitVec 32) (k : BitVec 32) : BitVec 32 :=
  Scalar.addi (Scalar.addi (loW (segW (widW i)) w) (baseW (widW i))) k

/-- The tile number's word holds the tile's number. -/
theorem widW_eq (i : grid0.Coords) : widW i = BitVec.ofNat 32 (2 * (i 1).val + (i 0).val) := by
  have h1 : (i 1).val < 16 := (i 1).isLt
  have h0 : (i 0).val < 2 := (i 0).isLt
  apply BitVec.eq_of_toNat_eq
  simp only [widW, Scalar.addi, Scalar.muli, IntOp.addi, IntOp.muli, BitVec.toNat_add, BitVec.toNat_mul, BitVec.toNat_ofNat]
  omega

/-- The segment word of each of the 32 tiles. -/
theorem segW_ofNat : ∀ n : Fin 32, segW (BitVec.ofNat 32 n.val) = BitVec.ofNat 32 (n.val / 4) := by decide +kernel
/-- The start word of each of the 32 tiles. -/
theorem baseW_ofNat : ∀ n : Fin 32, baseW (BitVec.ofNat 32 n.val) = BitVec.ofNat 32 (n.val % 4 * 512) := by decide +kernel

/-- There are 32 tiles. -/
theorem wid_lt (i : grid0.Coords) : 2 * (i 1).val + (i 0).val < 32 := by
  have h1 : (i 1).val < 16 := (i 1).isLt
  have h0 : (i 0).val < 2 := (i 0).isLt
  omega

/-- The segment word holds the tile's segment. -/
theorem segW_eq (i : grid0.Coords) : segW (widW i) = BitVec.ofNat 32 (seg i) := by
  rw [widW_eq]; exact segW_ofNat ⟨_, wid_lt i⟩
/-- The start word holds the tile's start. -/
theorem baseW_eq (i : grid0.Coords) : baseW (widW i) = BitVec.ofNat 32 (base i) := by
  rw [widW_eq]; exact baseW_ofNat ⟨_, wid_lt i⟩

/-- The chain of selects picks the word with the given number. -/
theorem loW_ofNat (w : Fin 9 → BitVec 32) : ∀ b : Fin 9, loW (BitVec.ofNat 32 b.val) w = w b
  | 0 => rfl | 1 => rfl | 2 => rfl | 3 => rfl | 4 => rfl | 5 => rfl | 6 => rfl | 7 => rfl | 8 => rfl

/-- A boundary word, read as signed, is its number. -/
theorem isInt_word {x : BitVec 32} (h : x.toNat ≤ 8192) : Affine.IsInt x (x.toNat : Int) := by
  have := Affine.ofNat (e := (x.toNat : Int)) x.toNat (by omega)
  simpa using this

/-- The word of the segment's start holds that start. -/
theorem isInt_lo (i : grid0.Coords) {w : Fin 9 → BitVec 32} (hw : Rng w) : Affine.IsInt (loW (segW (widW i)) w) (lo i w) := by
  rw [segW_eq, loW_ofNat w ⟨seg i, by have := seg_lt i; omega⟩]
  exact isInt_word (hw _)

/-- The word of the segment's end holds that end. -/
theorem isInt_hi (i : grid0.Coords) {w : Fin 9 → BitVec 32} (hw : Rng w) :
    Affine.IsInt (loW (Scalar.addi (segW (widW i)) 1#32) w) (hi i w) := by
  have h := seg_lt i
  have e : Scalar.addi (segW (widW i)) 1#32 = BitVec.ofNat 32 (seg i + 1) := by
    rw [segW_eq]; apply BitVec.eq_of_toNat_eq
    simp only [Scalar.addi, IntOp.addi, BitVec.toNat_add, BitVec.toNat_ofNat]; omega
  rw [e, loW_ofNat w ⟨seg i + 1, by omega⟩]
  exact isInt_word (hw _)

/-- A tile starts at row 1536 of its segment at the latest. -/
theorem base_le (i : grid0.Coords) : base i ≤ 1536 := by unfold base; omega

/-- The start word, read as signed, is the tile's start. -/
theorem isInt_base (i : grid0.Coords) : Affine.IsInt (baseW (widW i)) (base i) := by
  rw [baseW_eq]; have := base_le i; exact Affine.ofNat _ (by omega)

/-- A segment starts at most at the last token's end. -/
theorem lo_le (i : grid0.Coords) {w : Fin 9 → BitVec 32} (hw : Rng w) : lo i w ≤ 8192 := hw _
/-- A segment ends at most at the last token's end. -/
theorem hi_le (i : grid0.Coords) {w : Fin 9 → BitVec 32} (hw : Rng w) : hi i w ≤ 8192 := hw _

/-- The chunk length word is the chunk's count. -/
theorem isInt_cnt (i : grid0.Coords) {w : Fin 9 → BitVec 32} (hw : Rng w) (k : Nat) (hk : k ≤ 384) :
    Affine.IsInt (cntW i w (BitVec.ofNat 32 k)) (cnt i w k) := by
  have h1 := lo_le i hw
  have h2 := hi_le i hw
  have h3 := base_le i
  have a := Affine.subi (isInt_hi i hw) (isInt_lo i hw) ⟨rfl, by omega, by omega⟩
  have b := Affine.subi a (isInt_base i) ⟨rfl, by omega, by omega⟩
  have c := Affine.maxsi (Affine.ofNat (e := 0) 0 (by omega)) b rfl
  have d := Affine.minsi (Affine.ofNat (e := 512) 512 (by omega)) c rfl
  have e := Affine.subi d (Affine.ofNat (e := (k : Int)) k (by omega)) ⟨rfl, by omega, by omega⟩
  have f := Affine.maxsi (Affine.ofNat (e := 0) 0 (by omega)) e rfl
  exact Affine.minsi (Affine.ofNat (e := 128) 128 (by omega)) f (by unfold cnt; omega)

/-- The source row word is the row the chunk starts from. -/
theorem isInt_src (i : grid0.Coords) {w : Fin 9 → BitVec 32} (hw : Rng w) (k : Nat) (hk : k ≤ 512) :
    Affine.IsInt (srcW i w (BitVec.ofNat 32 k)) ((lo i w + base i + k : Nat) : Int) := by
  have h1 := lo_le i hw
  have h3 := base_le i
  have a := Affine.addi (isInt_lo i hw) (isInt_base i) ⟨rfl, by omega, by omega⟩
  exact Affine.addi a (Affine.ofNat (e := (k : Int)) k (by omega)) (by omega)

/-- `c ≠ 0` after widening, as the kernel tests a condition. -/
theorem test_iff (c : BitVec 1) : Scalar.cmpi .ne (Scalar.extui c) 0#32 = 1#1 ↔ c = 1#1 := by
  revert c; decide

/-- A word that holds a number as signed holds it as unsigned too. -/
theorem isInt_toNat {x : BitVec 32} {n : Nat} (h : Affine.IsInt x (n : Int)) : x.toNat = n := by
  have h := h
  unfold Affine.IsInt at h
  rw [BitVec.toInt_eq_toNat_cond] at h
  have := x.isLt
  split at * <;> omega

/-- The loop counter word of trip `t`. -/
theorem isInt_trip (t : Nat) (ht : t < 128) : Affine.IsInt (Scf.iv 0#32 1#32 t) (t : Int) :=
  Affine.iv (Affine.ofNat (e := 0) 0 (by omega)) (Affine.ofNat (e := 1) 1 (by omega)) t (by omega)

section Conds
variable (i : grid0.Coords) {w : Fin 9 → BitVec 32} (hw : Rng w) {k : Nat} (hk : k ≤ 384)
include hw hk

/-- The test for a whole chunk holds when all 128 rows hold tokens. -/
theorem full_iff : Scalar.cmpi .ne (Scalar.extui (Scalar.cmpi .eq (cntW i w (BitVec.ofNat 32 k)) 128#32)) 0#32 = 1#1 ↔ cnt i w k = 128 := by
  rw [test_iff]
  constructor
  · intro h; apply Classical.byContradiction; intro g
    exact Affine.eq_fails (isInt_cnt i hw k hk) (Affine.ofNat (e := 128) 128 (by omega)) (by omega) h
  · intro h; exact Affine.eq_holds (isInt_cnt i hw k hk) (Affine.ofNat (e := 128) 128 (by omega)) (by omega)

/-- The test for an empty chunk holds when no row holds a token. -/
theorem zero_iff : Scalar.cmpi .ne (Scalar.extui (Scalar.cmpi .eq (cntW i w (BitVec.ofNat 32 k)) 0#32)) 0#32 = 1#1 ↔ cnt i w k = 0 := by
  rw [test_iff]
  constructor
  · intro h; apply Classical.byContradiction; intro g
    exact Affine.eq_fails (isInt_cnt i hw k hk) (Affine.ofNat (e := 0) 0 (by omega)) (by omega) h
  · intro h; exact Affine.eq_holds (isInt_cnt i hw k hk) (Affine.ofNat (e := 0) 0 (by omega)) (by omega)

/-- The test for a partial chunk holds when some rows, not all, hold tokens. -/
theorem part_iff : Scalar.cmpi .ne (Scalar.extui (Scalar.andi (Scalar.cmpi .sgt (cntW i w (BitVec.ofNat 32 k)) 0#32)
      (Scalar.cmpi .slt (cntW i w (BitVec.ofNat 32 k)) 128#32))) 0#32 = 1#1 ↔ 0 < cnt i w k ∧ cnt i w k < 128 := by
  rw [test_iff]
  have e : ∀ a b : BitVec 1, Scalar.andi a b = 1#1 ↔ a = 1#1 ∧ b = 1#1 := by decide
  rw [e]
  refine and_congr ⟨fun h => ?_, fun h => ?_⟩ ⟨fun h => ?_, fun h => ?_⟩
  · apply Classical.byContradiction; intro g
    exact Affine.sgt_fails (isInt_cnt i hw k hk) (Affine.ofNat (e := 0) 0 (by omega)) (by omega) h
  · exact Affine.sgt_holds (isInt_cnt i hw k hk) (Affine.ofNat (e := 0) 0 (by omega)) (by omega)
  · apply Classical.byContradiction; intro g
    exact Affine.slt_fails (isInt_cnt i hw k hk) (Affine.ofNat (e := 128) 128 (by omega)) (by omega) h
  · exact Affine.slt_holds (isInt_cnt i hw k hk) (Affine.ofNat (e := 128) 128 (by omega)) (by omega)

/-- The test for copying a row holds when the row holds a token. -/
theorem row_iff (t : Nat) (ht : t < 128) :
    Scalar.cmpi .ne (Scalar.extui (Scalar.cmpi .slt (Scf.iv 0#32 1#32 t) (cntW i w (BitVec.ofNat 32 k)))) 0#32 = 1#1 ↔ t < cnt i w k := by
  rw [test_iff]
  constructor
  · intro h; apply Classical.byContradiction; intro g
    exact Affine.slt_fails (isInt_trip t ht) (isInt_cnt i hw k hk) (by omega) h
  · intro h; exact Affine.slt_holds (isInt_trip t ht) (isInt_cnt i hw k hk) (by omega)

/-- The test for zeroing a row holds when the row holds no token. -/
theorem pad_iff (t : Nat) (ht : t < 128) :
    Scalar.cmpi .ne (Scalar.extui (Scalar.cmpi .sge (Scf.iv 0#32 1#32 t) (cntW i w (BitVec.ofNat 32 k)))) 0#32 = 1#1 ↔ ¬ t < cnt i w k := by
  rw [test_iff]
  constructor
  · intro h g
    exact Affine.sge_fails (isInt_trip t ht) (isInt_cnt i hw k hk) (by omega) h
  · intro h; exact Affine.sge_holds (isInt_trip t ht) (isInt_cnt i hw k hk) (by omega)

omit hk in
/-- The first source row of a chunk. -/
theorem src_toNat (hk : k ≤ 512) : (srcW i w (BitVec.ofNat 32 k)).toNat = lo i w + base i + k := isInt_toNat (isInt_src i hw k hk)

/-- The source row of a chunk's row. -/
theorem srcRow_toNat (t : Nat) (ht : t < 128) :
    (Scalar.addi (srcW i w (BitVec.ofNat 32 k)) (Scf.iv 0#32 1#32 t)).toNat = lo i w + base i + k + t := by
  have h1 := lo_le i hw
  have h3 := base_le i
  exact isInt_toNat (n := lo i w + base i + k + t) (Affine.addi (isInt_src i hw k (by omega)) (isInt_trip t ht) (by omega))

end Conds

/-- Rows read below a chunk's count stay inside the token array. -/
theorem row_inb {r n : Nat} {o : Fin 2 → Nat} (e : o = ![r, 0]) (h : r + n ≤ 8192) : ∀ a, o a + (![n, 512] : Fin 2 → Nat) a ≤ S8192x512.size a := by
  subst e
  intro a
  match a with
  | 0 => exact h
  | 1 => show 0 + 512 ≤ 512; omega

section Gen
variable (i : grid0.Coords) {w : Fin 9 → BitVec 32} (hw : Rng w)
include hw

/-- The first chunk is whole. -/
theorem cond1_iff : k0_cond1 i (w 0) (w 1) (w 2) (w 3) (w 4) (w 5) (w 6) (w 7) (w 8) = 1#1 ↔ cnt i w 0 = 128 :=
  full_iff i hw (k := 0) (by omega)
/-- Where the first chunk is copied from, as a whole. -/
theorem off18_eq : k0_off18 i (w 0) (w 1) (w 2) (w 3) (w 4) (w 5) (w 6) (w 7) (w 8) = ![lo i w + base i + 0, 0] :=
  congrArg (fun n => ![n, 0]) (src_toNat i hw (k := 0) (by omega))
/-- The first chunk is partial. -/
theorem cond3_iff : k0_cond3 i (w 0) (w 1) (w 2) (w 3) (w 4) (w 5) (w 6) (w 7) (w 8) = 1#1 ↔ 0 < cnt i w 0 ∧ cnt i w 0 < 128 :=
  part_iff i hw (k := 0) (by omega)
/-- A row of the first chunk holds a token. -/
theorem cond4_iff (t) : k0_cond4 i (w 0) (w 1) (w 2) (w 3) (w 4) (w 5) (w 6) (w 7) (w 8) t = 1#1 ↔ t.val < cnt i w 0 :=
  row_iff i hw (k := 0) (by omega) t.val (Nat.lt_of_lt_of_le t.isLt Gen.k0_t2_abs.2.1)
/-- Where a row of the first chunk is copied from. -/
theorem off21_eq (t) : k0_off21 i (w 0) (w 1) (w 2) (w 3) (w 4) (w 5) (w 6) (w 7) (w 8) t = ![lo i w + base i + 0 + t.val, 0] :=
  congrArg (fun n => ![n, 0]) (srcRow_toNat i hw (k := 0) (by omega) t.val (Nat.lt_of_lt_of_le t.isLt Gen.k0_t2_abs.2.1))

/-- The second chunk is whole. -/
theorem cond6_iff : k0_cond6 i (w 0) (w 1) (w 2) (w 3) (w 4) (w 5) (w 6) (w 7) (w 8) = 1#1 ↔ cnt i w 128 = 128 :=
  full_iff i hw (k := 128) (by omega)
/-- Where the second chunk is copied from, as a whole. -/
theorem off24_eq : k0_off24 i (w 0) (w 1) (w 2) (w 3) (w 4) (w 5) (w 6) (w 7) (w 8) = ![lo i w + base i + 128, 0] :=
  congrArg (fun n => ![n, 0]) (src_toNat i hw (k := 128) (by omega))
/-- The second chunk is partial. -/
theorem cond8_iff : k0_cond8 i (w 0) (w 1) (w 2) (w 3) (w 4) (w 5) (w 6) (w 7) (w 8) = 1#1 ↔ 0 < cnt i w 128 ∧ cnt i w 128 < 128 :=
  part_iff i hw (k := 128) (by omega)
/-- A row of the second chunk holds a token. -/
theorem cond9_iff (t) : k0_cond9 i (w 0) (w 1) (w 2) (w 3) (w 4) (w 5) (w 6) (w 7) (w 8) t = 1#1 ↔ t.val < cnt i w 128 :=
  row_iff i hw (k := 128) (by omega) t.val (Nat.lt_of_lt_of_le t.isLt Gen.k0_t3_abs.2.1)
/-- Where a row of the second chunk is copied from. -/
theorem off27_eq (t) : k0_off27 i (w 0) (w 1) (w 2) (w 3) (w 4) (w 5) (w 6) (w 7) (w 8) t = ![lo i w + base i + 128 + t.val, 0] :=
  congrArg (fun n => ![n, 0]) (srcRow_toNat i hw (k := 128) (by omega) t.val (Nat.lt_of_lt_of_le t.isLt Gen.k0_t3_abs.2.1))

/-- The third chunk is whole. -/
theorem cond11_iff : k0_cond11 i (w 0) (w 1) (w 2) (w 3) (w 4) (w 5) (w 6) (w 7) (w 8) = 1#1 ↔ cnt i w 256 = 128 :=
  full_iff i hw (k := 256) (by omega)
/-- Where the third chunk is copied from, as a whole. -/
theorem off30_eq : k0_off30 i (w 0) (w 1) (w 2) (w 3) (w 4) (w 5) (w 6) (w 7) (w 8) = ![lo i w + base i + 256, 0] :=
  congrArg (fun n => ![n, 0]) (src_toNat i hw (k := 256) (by omega))
/-- The third chunk is partial. -/
theorem cond13_iff : k0_cond13 i (w 0) (w 1) (w 2) (w 3) (w 4) (w 5) (w 6) (w 7) (w 8) = 1#1 ↔ 0 < cnt i w 256 ∧ cnt i w 256 < 128 :=
  part_iff i hw (k := 256) (by omega)
/-- A row of the third chunk holds a token. -/
theorem cond14_iff (t) : k0_cond14 i (w 0) (w 1) (w 2) (w 3) (w 4) (w 5) (w 6) (w 7) (w 8) t = 1#1 ↔ t.val < cnt i w 256 :=
  row_iff i hw (k := 256) (by omega) t.val (Nat.lt_of_lt_of_le t.isLt Gen.k0_t4_abs.2.1)
/-- Where a row of the third chunk is copied from. -/
theorem off33_eq (t) : k0_off33 i (w 0) (w 1) (w 2) (w 3) (w 4) (w 5) (w 6) (w 7) (w 8) t = ![lo i w + base i + 256 + t.val, 0] :=
  congrArg (fun n => ![n, 0]) (srcRow_toNat i hw (k := 256) (by omega) t.val (Nat.lt_of_lt_of_le t.isLt Gen.k0_t4_abs.2.1))

/-- The fourth chunk is whole. -/
theorem cond16_iff : k0_cond16 i (w 0) (w 1) (w 2) (w 3) (w 4) (w 5) (w 6) (w 7) (w 8) = 1#1 ↔ cnt i w 384 = 128 :=
  full_iff i hw (k := 384) (by omega)
/-- Where the fourth chunk is copied from, as a whole. -/
theorem off36_eq : k0_off36 i (w 0) (w 1) (w 2) (w 3) (w 4) (w 5) (w 6) (w 7) (w 8) = ![lo i w + base i + 384, 0] :=
  congrArg (fun n => ![n, 0]) (src_toNat i hw (k := 384) (by omega))
/-- The fourth chunk is partial. -/
theorem cond18_iff : k0_cond18 i (w 0) (w 1) (w 2) (w 3) (w 4) (w 5) (w 6) (w 7) (w 8) = 1#1 ↔ 0 < cnt i w 384 ∧ cnt i w 384 < 128 :=
  part_iff i hw (k := 384) (by omega)
/-- A row of the fourth chunk holds a token. -/
theorem cond19_iff (t) : k0_cond19 i (w 0) (w 1) (w 2) (w 3) (w 4) (w 5) (w 6) (w 7) (w 8) t = 1#1 ↔ t.val < cnt i w 384 :=
  row_iff i hw (k := 384) (by omega) t.val (Nat.lt_of_lt_of_le t.isLt Gen.k0_t5_abs.2.1)
/-- Where a row of the fourth chunk is copied from. -/
theorem off39_eq (t) : k0_off39 i (w 0) (w 1) (w 2) (w 3) (w 4) (w 5) (w 6) (w 7) (w 8) t = ![lo i w + base i + 384 + t.val, 0] :=
  congrArg (fun n => ![n, 0]) (srcRow_toNat i hw (k := 384) (by omega) t.val (Nat.lt_of_lt_of_le t.isLt Gen.k0_t5_abs.2.1))

/-- The source rows of a chunk's tokens end within the tokens. -/
theorem src_le {k t : Nat} (h : t ≤ cnt i w k) (h0 : 0 < t) : lo i w + base i + k + t ≤ 8192 := by
  have := hi_le i hw
  unfold cnt at h; omega

/-- The kernel's own bounds check passes. -/
theorem chk1_ok : k0_chk1 i (w 0) (w 1) (w 2) (w 3) (w 4) (w 5) (w 6) (w 7) (w 8) := by
  refine ⟨?_, ?_, ?_, ?_, ?_, ?_, ?_, ?_⟩
  · exact fun h => row_inb (n := 128) (off18_eq i hw) (src_le i hw (Nat.le_of_eq ((cond1_iff i hw).1 h).symm) (by omega))
  · exact fun t _ h => row_inb (n := 1) (off21_eq i hw t) (by
      have := src_le i hw (k := 0) (t := t.val + 1) ((cond4_iff i hw t).1 h) (by omega); omega)
  · exact fun h => row_inb (n := 128) (off24_eq i hw) (src_le i hw (Nat.le_of_eq ((cond6_iff i hw).1 h).symm) (by omega))
  · exact fun t _ h => row_inb (n := 1) (off27_eq i hw t) (by
      have := src_le i hw (k := 128) (t := t.val + 1) ((cond9_iff i hw t).1 h) (by omega); omega)
  · exact fun h => row_inb (n := 128) (off30_eq i hw) (src_le i hw (Nat.le_of_eq ((cond11_iff i hw).1 h).symm) (by omega))
  · exact fun t _ h => row_inb (n := 1) (off33_eq i hw t) (by
      have := src_le i hw (k := 256) (t := t.val + 1) ((cond14_iff i hw t).1 h) (by omega); omega)
  · exact fun h => row_inb (n := 128) (off36_eq i hw) (src_le i hw (Nat.le_of_eq ((cond16_iff i hw).1 h).symm) (by omega))
  · exact fun t _ h => row_inb (n := 1) (off39_eq i hw t) (by
      have := src_le i hw (k := 384) (t := t.val + 1) ((cond19_iff i hw t).1 h) (by omega); omega)
end Gen

end Cert.Proof.KernelIdeal
-- ==== Proof.IdealBase.lean ====
module

public import proofs.«01_k».proof.Defs
public import proofs.«01_k».proof.Proof.IdealWords
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.Writes
public import Idealize.ShloMosaic.Lib.ViewIndex
public import proofs.«01_k».proof.Proof.Gen.KernelIdeal
public import proofs.«01_k».proof.Proof.Gen.KernelIdeal.Skeleton

@[expose] public section

set_option maxRecDepth 16384

noncomputable section

/-! # The tile's resources and the copy step
The program as the launch theorem sees it, the buffers a tile works on, what a tile has to have written, and
the rule for one copy followed by its wait. -/

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The labels of the program's functions. -/
abbrev ΛP : Labels := Pipeline.Sig Λ₀ (Fin 0) fun p => (pcfgs (F := F) p).Adm
/-- The program's SparseCore calls. -/
abbrev K : SparseCore.Cfg τ sig (ΛP (F := F)) 1 := sc (F := F)
/-- The program's functions. -/
abbrev D [FloatOps F] : Defs nD τ sig (Elt F) (ΛP (F := F)) := Pipeline.defs pcfgs defs₀
/-- No loop needs a variant. -/
abbrev 𝒱₀ : Variants := Variants.none
/-- The same, for the labels of the calls. -/
abbrev 𝒱 : Variants := 𝒱₀.lift
/-- The variant of no loop. -/
abbrev v₀ : 𝒱.V := Sum.inl none

/-- The ghost state of the calls' handshakes. -/
abbrev UH : Type := URounds (GSem nD τ sig) ℕ
/-- The ghost state: the handshakes' and the copies' counters. -/
abbrev UU : Type := UH × Counters

local notation "𝕄" => MT nD τ sig (HIx 1) (Elt F) ℕ UU ℕ

/-- Where the handshakes' part lies in it. -/
abbrev EH : Emb UH (MT nD τ sig (HIx 1) (Elt F) ℕ UU ℕ) := embL

/-- The token rows, the boundary words padded to sixteen, and the rows the kernel writes. -/
abbrev fLoc (d : Dev nD) : Loc nD τ sig := (SparseCore.T d).loc main_arg0
/-- The sixteen boundary words. -/
abbrev cLoc (d : Dev nD) : Loc nD τ sig := (SparseCore.T d).loc main_v2
/-- The rows that the kernel writes. -/
abbrev oLoc (d : Dev nD) : Loc nD τ sig := (SparseCore.T d).loc main_v3

/-- The token rows, as a tile sees them. -/
abbrev fV : Memref sig .scVector .hbm S8192x512 .f32 := Memref.whole main_arg0_scv
/-- The boundary words, as a tile sees them. -/
abbrev cV : Memref sig .scVector .hbm S16 .i32 := Memref.whole main_v2_scv
/-- The result's rows, as a tile sees them. -/
abbrev oV : Memref sig .scVector .hbm S16384x512 .f32 := Memref.whole main_v3_scv
/-- A tile's copy of the boundary words. -/
abbrev wV : Memref sig .scVector .vmem S16 .i32 := Memref.whole cc0_scratch0
/-- A tile's rows of zeros. -/
abbrev zV : Memref sig .scVector .vmem S16x512 .f32 := Memref.whole cc0_scratch1

/-- The vector subcore that runs the tile at `i`. -/
abbrev thr (d : Dev nD) (i : grid0.Coords) : Thread nD τ := V d ((i 0).castLE hcore0) ((i 1).castLE hsub0)

/-- The number of the tile at `i`. -/
def wid (i : grid0.Coords) : Nat := 2 * (i 1).val + (i 0).val

/-- The rows of the result that the tile at `i` writes. -/
def rows (i : grid0.Coords) : Finset S16384x512.Idx := Finset.univ.filter fun x => (x 0).val / 512 = wid i

/-- An entry lies in a tile's block when its row is one of the tile's 512. -/
theorem mem_rows {i : grid0.Coords} {x : S16384x512.Idx} : x ∈ rows i ↔ 512 * wid i ≤ (x 0).val ∧ (x 0).val < 512 * wid i + 512 := by
  simp only [rows, Finset.mem_filter, Finset.mem_univ, true_and]; omega

section Spec
variable [FloatOps F]

/-- The floating-point zero the kernel fills with. -/
def zf : F .f32 := Scalar.ofBits .f32 0x00000000#32

/-- Entry `x` of the result: the token row `w b + s` when the segment `b = x₀ / 2048` is longer than
    `s = x₀ % 2048`, else zero. -/
def G (X : S8192x512.Idx → F .f32) (w : Fin 9 → BitVec 32) (x : S16384x512.Idx) : F .f32 :=
  let b : Fin 8 := ⟨(x 0).val / 2048, by have : (x 0).val < 16384 := (x 0).isLt; omega⟩
  let s := (x 0).val % 2048
  if h : s < (w b.succ).toNat - (w b.castSucc).toNat ∧ (w b.castSucc).toNat + s < 8192 then
    X fun | 0 => ⟨(w b.castSucc).toNat + s, h.2⟩ | 1 => ⟨(x 1).val, (x 1).isLt⟩
  else zf

variable {X : S8192x512.Idx → F .f32} {w : Fin 9 → BitVec 32}

/-- A row of the tile that holds a token is that token's row. -/
theorem G_token (hw : Rng w) (i : grid0.Coords) {a : Nat} {x : S16384x512.Idx} {y : S8192x512.Idx} (hx : (x 0).val = 512 * wid i + a) (ha : a < 512)
    (hn : base i + a < hi i w - lo i w) (h0 : (y 0).val = lo i w + base i + a) (h1 : (y 1).val = (x 1).val) : G X w x = X y := by
  have hb : (x 0).val / 2048 = seg i := by rw [hx]; unfold seg wid; omega
  have hs : (x 0).val % 2048 = base i + a := by rw [hx]; unfold base wid; omega
  have hh := hi_le i hw
  unfold G
  simp only [hb, hs]
  have e1 : (w (Fin.succ ⟨seg i, seg_lt i⟩)).toNat = hi i w := rfl
  have e2 : (w (Fin.castSucc ⟨seg i, seg_lt i⟩)).toNat = lo i w := rfl
  simp only [e1, e2]
  rw [dif_pos ⟨hn, by omega⟩]
  congr 1
  funext k
  match k with
  | 0 => exact Fin.ext (by show lo i w + (base i + a) = (y 0).val; omega)
  | 1 => exact Fin.ext h1.symm

/-- A row of the tile past its tokens is zero. -/
theorem G_zero (i : grid0.Coords) {a : Nat} {x : S16384x512.Idx} (hx : (x 0).val = 512 * wid i + a) (ha : a < 512)
    (hn : ¬ base i + a < hi i w - lo i w) : G X w x = zf := by
  have hb : (x 0).val / 2048 = seg i := by rw [hx]; unfold seg wid; omega
  have hs : (x 0).val % 2048 = base i + a := by rw [hx]; unfold base wid; omega
  unfold G
  simp only [hb, hs]
  have e1 : (w (Fin.succ ⟨seg i, seg_lt i⟩)).toNat = hi i w := rfl
  have e2 : (w (Fin.castSucc ⟨seg i, seg_lt i⟩)).toNat = lo i w := rfl
  simp only [e1, e2]
  rw [dif_neg fun h => hn h.1]

end Spec

/-- A scoped DMA semaphore's counter, taken out of the tile's own and put back. -/
theorem cell_borrow (d : Dev nD) (i : grid0.Coords) (sem : DmaSem sig) (h : (SemLoc.dma sem : SemLoc sig).isScoped .scVector = true) :
    (ownSems0 (thr d i) : sProp 𝕄) = iprop(semVal (thr d i, .dma sem) 0 ∗ bigSep ((ownCells (thr d i)).erase (thr d i, .dma sem)) fun g => semVal g 0) := by
  unfold SparseCore.Cfg.ownSems0
  exact SparseCore.bigSep_erase' ((mem_ownCells (g := (thr d i, .dma sem))).mpr ⟨rfl, h⟩)

section Copy
variable [FloatOps F]

/-- What a tile owes and has waited for, once every wait so far was a copy's. -/
def Ow (d : Dev nD) (i : grid0.Coords) (O : CellTallies nD τ sig (HIx 1)) (W : Waits sig (HIx 1)) : sProp 𝕄 :=
  iprop(∃ W', ⌜∀ p ∈ W', p ∈ W ∨ p.2 = none⌝ ∗ owes (thr d i) O W')

/-- One copy and its wait: the source is read at any share, the destination's block is written, the semaphore is
    back at zero. -/
theorem wp_copy (d : Dev nD) (i : grid0.Coords) (O : CellTallies nD τ sig (HIx 1)) (W : Waits sig (HIx 1)) {sp sp' : Space} {s : Shape} {e : EltTy}
    {src : Memref sig .scVector sp s e} {dst : Memref sig .scVector sp' s e} {sem : DmaSem sig}
    {hsrc : src.view.WordExact} {hdst : dst.view.WordExact} {hsem : DmaTarget.Typed (nD := nD) (τ := τ) (p := (thr d i).2) sp (.dma sem) (.here dst)}
    {hsrc' : src.view.WordExact} {hdst' : dst.view.WordExact} {α : Type}
    {k : PUnit → Prog (TpuEff nD τ sig (Elt F) Λ₀ (thr d i).2) α} {Q : α → sProp 𝕄} {A : sProp 𝕄}
    (q : PosShare TreeShare) (fs : Buf (Elt F) (src.view.loc (thr d i)))
    {Sd : Finset (Idx (dst.view.loc (thr d i)))} {fd : Buf (Elt F) (dst.view.loc (thr d i))}
    (hc : (SemLoc.dma sem : SemLoc sig).isScoped .scVector = true)
    (hN0 : 0 < dst.view.dmaCredit) (hSd : dst.view.set ⊆ Sd)
    (hk : iprop(Transfers.MayWaits (thr d i) (default : HIx 1) O ∗ (src.view.loc (thr d i) ↦{q} fs)
        ∗ (dst.view.loc (thr d i) ↦[Sd]{fullShare} dst.view.write (Elt F) fd (src.view.read (Elt F) fs) Finset.univ)
        ∗ ownSems0 (thr d i) ∗ Ow d i O W ∗ A) ⊢ wp frame (wpE (defs₀ (F := F)) 𝒱₀ (thr d i) none) Set.univ (k ⟨⟩) Q) :
    iprop(Transfers.MayWaits (thr d i) (default : HIx 1) O ∗ (src.view.loc (thr d i) ↦{q} fs) ∗ (dst.view.loc (thr d i) ↦[Sd]{fullShare} fd)
        ∗ ownSems0 (thr d i) ∗ Ow d i O W ∗ A)
      ⊢ wp frame (wpE (defs₀ (F := F)) 𝒱₀ (thr d i) none) Set.univ
          (.op (.enqueueDma src (.here dst) (.dma sem) hsrc hdst hsem) fun _ => .op (.waitDma2 sem src dst hsrc' hdst') k) Q := by
  rw [cell_borrow d i sem hc]
  unfold Ow
  iintro ⟨#Hmw, Hs, Hd, ⟨Hsem, Hsems⟩, ⟨%W', %hW', HO⟩, HA⟩
  ihave Hss := (pointsTo_split_subset (q := q) (f := fs) (S := Finset.univ) (Finset.subset_univ src.view.set)).1 $$ Hs
  icases Hss with ⟨Hs, Hsr⟩
  iapply (Transfers.wp_dmaLocal countersEmb 𝒱₀ (thr d i) none (default : HIx 1) dst.view.dmaCredit rfl hN0 hSd) $$ [Hs Hd Hsem]
  · isplitl [Hs]; · iexact Hs
    isplitl [Hd]; · iexact Hd
    iexact Hsem
  iintro Hfl
  iapply (Transfers.wp_waitLocalO countersEmb 𝒱₀ (thr d i) none (default : HIx 1) rfl) $$ [Hfl HO]
  · isplitl [Hfl]; · iexact Hfl
    isplitl [HO]; · iexact HO
    iapply (Transfers.MayWaits.elim (SemLoc.dma sem)) $$ Hmw
  iintro ⟨⟨Hd, Hs⟩, Hsem, HO⟩
  ihave Hs' := (pointsTo_split_subset (q := q) (f := fs) (S := Finset.univ) (Finset.subset_univ src.view.set)).2 $$ [Hs Hsr]
  · isplitl [Hs] <;> iassumption
  iapply hk
  isplitr; · iexact Hmw
  isplitl [Hs']; · iexact Hs'
  isplitl [Hd]; · iexact Hd
  isplitl [Hsem Hsems]
  · rw [cell_borrow d i sem hc]
    isplitl [Hsem] <;> iassumption
  isplitr [HA]
  · unfold Ow
    iexists _; isplitr
    swap; · iexact HO
    ipureintro; intro p hp
    rcases Finset.mem_insert.mp hp with hp | hp
    · exact .inr (hp ▸ rfl)
    · exact hW' p hp
  iexact HA

end Copy

end Cert.Proof.KernelIdeal
-- ==== Proof.IdealStep.lean ====
module

public import proofs.«01_k».proof.Proof.IdealBase
public import Idealize.ShloMosaic.Lib.Pipeline.ValueKit.Geometry

@[expose] public section

set_option maxRecDepth 16384

noncomputable section

/-! # Copies that advance the tile
The tile's rows are written from the first to the last. A copy of token rows, or of zero rows, takes the state
"the first `a` rows hold their values" to "the first `a + n` rows do". -/

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- The first `a` rows of the tile hold the result. -/
def St (d : Dev nD) (i : grid0.Coords) (X : S8192x512.Idx → F .f32) (w : Fin 9 → BitVec 32) (a : Nat) : sProp 𝕄 :=
  iprop(∃ f : Buf (Elt F) (oLoc d), ⌜∀ x ∈ rows i, (x 0).val < 512 * wid i + a → f x = G X w x⌝ ∗ oLoc d ↦[rows i]{fullShare} f)

/-- The zero rows in the tile's scratch. -/
def zbuf : S16x512.Idx → F .f32 := fun _ => zf

/-- The tile's state while it writes its rows. -/
def R (d : Dev nD) (i : grid0.Coords) (q : PosShare TreeShare) (X : S8192x512.Idx → F .f32) (w : Fin 9 → BitVec 32)
    (O : CellTallies nD τ sig (HIx 1)) (W : Waits sig (HIx 1)) (a : Nat) : sProp 𝕄 :=
  iprop(Transfers.MayWaits (thr d i) (default : HIx 1) O ∗ (fLoc d ↦{q} (X : Buf (Elt F) (fLoc d)))
    ∗ ((zV).view.loc (thr d i) ↦{fullShare} (zbuf : Buf (Elt F) ((zV).view.loc (thr d i))))
    ∗ St d i X w a ∗ ownSems0 (thr d i) ∗ Ow d i O W)

section Step
variable (d : Dev nD) (i : grid0.Coords) (q : PosShare TreeShare) (X : S8192x512.Idx → F .f32) (w : Fin 9 → BitVec 32)
  (O : CellTallies nD τ sig (HIx 1)) (W : Waits sig (HIx 1))

/-- Writing rows `a .. a + n` of the tile with their values. -/
theorem write_rows {n a : Nat} {o : Fin 2 → Nat} {inb : ∀ k, o k + (![n, 512] : Fin 2 → Nat) k ≤ S16384x512.size k}
    (ho : o = ![512 * wid i + a, 0]) (f : Buf (Elt F) (oLoc d))
    (p : (Rect.unit (s := S16384x512) o ![n, 512] inb).shape.Idx → F .f32)
    (hp : ∀ y x, (x 0).val = 512 * wid i + (a + (y 0).val) → (x 1).val = (y 1).val → p y = G X w x)
    (hf : ∀ x ∈ rows i, (x 0).val < 512 * wid i + a → f x = G X w x) :
    ∀ x ∈ rows i, (x 0).val < 512 * wid i + (a + n) →
      ((oV).slice (Rect.unit (s := S16384x512) o ![n, 512] inb) (fun _ => rfl)).view.write (Elt F) f p Finset.univ x = G X w x := by
  subst ho
  intro x hx hlt
  by_cases hm : x ∈ ((oV).view.slice (Rect.unit (s := S16384x512) ![512 * wid i + a, 0] ![n, 512] inb)).set
  · obtain ⟨y, rfl⟩ := View.exists_of_mem_set_slice hm
    have e := View.write_emb_of_mem (Val := Elt F) (v := ((oV).slice (Rect.unit (s := S16384x512) ![512 * wid i + a, 0] ![n, 512] inb) (fun _ => rfl)).view)
      f p (Finset.mem_univ y)
    refine e.trans ((cast_eq _ _).trans (hp y _ ?_ ?_))
    · exact (ValueKit.rect_emb_unit_val _ _ _ _ _).trans (Nat.add_assoc _ _ _)
    · exact (ValueKit.rect_emb_unit_val _ _ _ _ _).trans (Nat.zero_add _)
  · rw [View.write_of_not_mem]
    · apply hf x hx
      apply Classical.byContradiction; intro hge
      apply hm
      rw [View.set_slice_whole, Rect.mem_set_unit]
      have hx1 : (x 1).val < 512 := (x 1).isLt
      intro k
      match k with
      | 0 => exact ⟨by show 512 * wid i + a ≤ (x 0).val; omega, by show (x 0).val < 512 * wid i + a + n; omega⟩
      | 1 => exact ⟨Nat.zero_le _, by show (x 1).val < 0 + 512; omega⟩
    · rw [View.setOn_univ]; exact hm

/-- The written block lies within the tile's rows. -/
theorem block_subset {n a : Nat} {o : Fin 2 → Nat} {inb : ∀ k, o k + (![n, 512] : Fin 2 → Nat) k ≤ S16384x512.size k}
    (ho : o = ![512 * wid i + a, 0]) (h : a + n ≤ 512) :
    ((oV).slice (Rect.unit (s := S16384x512) o ![n, 512] inb) (fun _ => rfl)).view.set ⊆ rows i := by
  subst ho
  intro x hx
  have hx : x ∈ ((oV).view.slice (Rect.unit (s := S16384x512) ![512 * wid i + a, 0] ![n, 512] inb)).set := hx
  rw [View.set_slice_whole, Rect.mem_set_unit] at hx
  have h0 := hx 0
  have h1 : 512 * wid i + a ≤ (x 0).val := h0.1
  have h2 : (x 0).val < 512 * wid i + a + n := h0.2
  exact mem_rows.2 ⟨by omega, by omega⟩

section Token
variable {n a : Nat} {o o' : Fin 2 → Nat} {inb : ∀ k, o k + (![n, 512] : Fin 2 → Nat) k ≤ S16384x512.size k}
  {inb' : ∀ k, o' k + (![n, 512] : Fin 2 → Nat) k ≤ S8192x512.size k}

/-- Copying token rows: the tile is `n` rows further. -/
theorem wp_token {sem : DmaSem sig} {hsrc hdst hsem hsrc' hdst'} {α : Type} {k : PUnit → Prog (TpuEff nD τ sig (Elt F) Λ₀ (thr d i).2) α} {Q : α → sProp 𝕄}
    (hc : (SemLoc.dma sem : SemLoc sig).isScoped .scVector = true)
    (hN0 : 0 < (main_v3_scv).dmaCredit ⟨2, ![n, 512]⟩ .f32)
    (hw : Rng w) (ho : o = ![512 * wid i + a, 0]) (ho' : o' = ![lo i w + base i + a, 0]) (han : a + n ≤ 512) (hn : base i + a + n ≤ hi i w - lo i w)
    (hk : R d i q X w O W (a + n) ⊢ wp frame (wpE (defs₀ (F := F)) 𝒱₀ (thr d i) none) Set.univ (k ⟨⟩) Q) :
    R d i q X w O W a ⊢ wp frame (wpE (defs₀ (F := F)) 𝒱₀ (thr d i) none) Set.univ
      (.op (.enqueueDma ((fV).slice (Rect.unit (s := S8192x512) o' ![n, 512] inb') (fun _ => rfl))
          (.here ((oV).slice (Rect.unit (s := S16384x512) o ![n, 512] inb) (fun _ => rfl))) (.dma sem) hsrc hdst hsem) fun _ =>
        .op (.waitDma2 sem ((fV).slice (Rect.unit (s := S8192x512) o' ![n, 512] inb') (fun _ => rfl))
          ((oV).slice (Rect.unit (s := S16384x512) o ![n, 512] inb) (fun _ => rfl)) hsrc' hdst') k) Q := by
  unfold R St
  iintro ⟨#Hmw, HX, HZ, ⟨%f, %hf, Hf⟩, Hsem, HO⟩
  iapply (wp_copy d i O W (src := (fV).slice (Rect.unit (s := S8192x512) o' ![n, 512] inb') (fun _ => rfl))
    (dst := (oV).slice (Rect.unit (s := S16384x512) o ![n, 512] inb) (fun _ => rfl)) (A := iprop((zV).view.loc (thr d i) ↦{fullShare} (zbuf : Buf (Elt F) ((zV).view.loc (thr d i)))))
    q (X : Buf (Elt F) (fLoc d)) (Sd := (rows i : Finset S16384x512.Idx)) (fd := f) hc hN0 (block_subset i ho han) ?_) $$ [HX HZ Hf Hsem HO]
  · refine BIBase.Entails.trans ?_ hk
    unfold R St
    iintro ⟨#Hmw, HX, Hf, Hsem, HO, HZ⟩
    isplitr; · iexact Hmw
    isplitl [HX]; · iexact HX
    isplitl [HZ]; · iexact HZ
    isplitl [Hf]
    · iexists _; isplitr
      swap; · iexact Hf
      ipureintro
      refine write_rows d i X w ho f _ (fun y x h0 h1 => ?_) hf
      have hy : (y 0).val < n := (y 0).isLt
      subst ho'
      refine ((View.read_apply _ _).trans (cast_eq _ _)).trans (G_token hw i h0 (by omega) (by omega) ?_ ?_).symm
      · exact (ValueKit.rect_emb_unit_val _ _ _ _ _).trans (Nat.add_assoc _ _ _)
      · exact (ValueKit.rect_emb_unit_val _ _ _ _ _).trans ((Nat.zero_add _).trans h1.symm)
    isplitl [Hsem] <;> iassumption
  isplitr; · iexact Hmw
  isplitl [HX]; · iexact HX
  isplitl [Hf]; · iexact Hf
  isplitl [Hsem]; · iexact Hsem
  isplitl [HO] <;> iassumption

/-- Copying zero rows: the tile is `n` rows further. -/
theorem wp_zero {src : Memref sig .scVector .vmem (Rect.unit (s := S16384x512) o ![n, 512] inb).shape .f32} {fs : Buf (Elt F) (src.view.loc (thr d i))}
    {sem : DmaSem sig} {hsrc hdst hsem hsrc' hdst'} {α : Type} {k : PUnit → Prog (TpuEff nD τ sig (Elt F) Λ₀ (thr d i).2) α} {Q : α → sProp 𝕄}
    (hc : (SemLoc.dma sem : SemLoc sig).isScoped .scVector = true)
    (hN0 : 0 < (main_v3_scv).dmaCredit ⟨2, ![n, 512]⟩ .f32)
    (hs : ((zV).view.loc (thr d i) ↦{fullShare} (zbuf : Buf (Elt F) ((zV).view.loc (thr d i))) : sProp 𝕄) = (src.view.loc (thr d i) ↦{fullShare} fs))
    (hr : ∀ y, src.view.read (Elt F) fs y = zf)
    (ho : o = ![512 * wid i + a, 0]) (han : a + n ≤ 512) (hn : hi i w - lo i w ≤ base i + a)
    (hk : R d i q X w O W (a + n) ⊢ wp frame (wpE (defs₀ (F := F)) 𝒱₀ (thr d i) none) Set.univ (k ⟨⟩) Q) :
    R d i q X w O W a ⊢ wp frame (wpE (defs₀ (F := F)) 𝒱₀ (thr d i) none) Set.univ
      (.op (.enqueueDma src
          (.here ((oV).slice (Rect.unit (s := S16384x512) o ![n, 512] inb) (fun _ => rfl))) (.dma sem) hsrc hdst hsem) fun _ =>
        .op (.waitDma2 sem src
          ((oV).slice (Rect.unit (s := S16384x512) o ![n, 512] inb) (fun _ => rfl)) hsrc' hdst') k) Q := by
  unfold R St
  rw [hs]
  iintro ⟨#Hmw, HX, HZ, ⟨%f, %hf, Hf⟩, Hsem, HO⟩
  iapply (wp_copy d i O W (src := src)
    (dst := (oV).slice (Rect.unit (s := S16384x512) o ![n, 512] inb) (fun _ => rfl)) (A := iprop(fLoc d ↦{q} (X : Buf (Elt F) (fLoc d))))
    fullShare fs (Sd := (rows i : Finset S16384x512.Idx)) (fd := f) hc hN0 (block_subset i ho han) ?_) $$ [HX HZ Hf Hsem HO]
  · refine BIBase.Entails.trans ?_ hk
    unfold R St
    rw [hs]
    iintro ⟨#Hmw, HZ, Hf, Hsem, HO, HX⟩
    isplitr; · iexact Hmw
    isplitl [HX]; · iexact HX
    isplitl [HZ]; · iexact HZ
    isplitl [Hf]
    · iexists _; isplitr
      swap; · iexact Hf
      ipureintro
      refine write_rows d i X w ho f _ (fun y x h0 h1 => ?_) hf
      have hy : (y 0).val < n := (y 0).isLt
      exact (hr y).trans (G_zero i h0 (by omega) (by omega)).symm
    isplitl [Hsem] <;> iassumption
  isplitr; · iexact Hmw
  isplitl [HZ]; · iexact HZ
  isplitl [Hf]; · iexact Hf
  isplitl [Hsem]; · iexact Hsem
  isplitl [HO] <;> iassumption

end Token

end Step

end Cert.Proof.KernelIdeal
-- ==== Proof.IdealChunk.lean ====
module

public import proofs.«01_k».proof.Proof.IdealStep

@[expose] public section

set_option maxRecDepth 16384

noncomputable section

/-! # One chunk of a tile
The three conditionals of a chunk — the whole chunk copied, the whole chunk zeroed, the chunk row by row — as
steps of the tile's state. -/

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- A piece of the kernel's text at the tile's buffers and semaphores. -/
abbrev call {β : Type 1} (f : (arg2 : Memref sig .scVector .hbm S8192x512 .f32) → arg2.IsWhole → (arg3 : Memref sig .scVector .hbm S16 .i32) → arg3.IsWhole →
    (arg4 : Memref sig .scVector .hbm S16384x512 .f32) → arg4.IsWhole → (arg5 : Memref sig .scVector .vmem S16 .i32) → arg5.IsWhole →
    (arg6 : Memref sig .scVector .vmem S16x512 .f32) → arg6.IsWhole → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → β) : β :=
  f fV (Memref.isWhole_whole _) cV (Memref.isWhole_whole _) oV (Memref.isWhole_whole _) wV (Memref.isWhole_whole _) zV (Memref.isWhole_whole _)
    cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44

section Chunk
variable (d : Dev nD) (i : grid0.Coords) (q : PosShare TreeShare) (X : S8192x512.Idx → F .f32) (w : Fin 9 → BitVec 32)
  (O : CellTallies nD τ sig (HIx 1)) (W : Waits sig (HIx 1))

/-- The zero rows seen by the copy. -/
theorem pts_z : ((zV).view.loc (thr d i) ↦{fullShare} (zbuf : Buf (Elt F) ((zV).view.loc (thr d i))) : sProp 𝕄)
    = ((zV).view.loc (thr d i) ↦{fullShare} (zbuf : Buf (Elt F) ((zV).view.loc (thr d i)))) := rfl

/-- An offset in closed form is the tile's row. -/
theorem off_a {o : Fin 2 → Nat} {r a : Nat} (h : o = ![r, 0]) (e : r = 512 * wid i + a) : o = ![512 * wid i + a, 0] := by rw [h, e]

/-- A source offset with its parts regrouped. -/
theorem off_t {o : Fin 2 → Nat} {b k t : Nat} (h : o = ![b + k + t, 0]) : o = ![b + (k + t), 0] := by rw [h, Nat.add_assoc]

/-- One copy of the sixteen zero rows. -/
theorem wp_zeros {a : Nat} {o : Fin 2 → Nat} {inb : ∀ k, o k + (![16, 512] : Fin 2 → Nat) k ≤ S16384x512.size k}
    {sem : DmaSem sig} {hsrc hdst hsem hsrc' hdst'} {α : Type} {k : PUnit → Prog (TpuEff nD τ sig (Elt F) Λ₀ (thr d i).2) α} {Q : α → sProp 𝕄}
    (hc : (SemLoc.dma sem : SemLoc sig).isScoped .scVector = true)
    (ho : o = ![512 * wid i + a, 0]) (han : a + 16 ≤ 512) (hn : hi i w - lo i w ≤ base i + a)
    (hk : R d i q X w O W (a + 16) ⊢ wp frame (wpE (defs₀ (F := F)) 𝒱₀ (thr d i) none) Set.univ (k ⟨⟩) Q) :
    R d i q X w O W a ⊢ wp frame (wpE (defs₀ (F := F)) 𝒱₀ (thr d i) none) Set.univ
      (.op (.enqueueDma zV
          (.here ((oV).slice (Rect.unit (s := S16384x512) o ![16, 512] inb) (fun _ => rfl))) (.dma sem) hsrc hdst hsem) fun _ =>
        .op (.waitDma2 sem zV
          ((oV).slice (Rect.unit (s := S16384x512) o ![16, 512] inb) (fun _ => rfl)) hsrc' hdst') k) Q :=
  wp_zero d i q X w O W (n := 16) hc (by decide) (pts_z d i) (fun _ => rfl) ho han hn hk

/-- The first five zero copies of the chunk at 0. -/
theorem part3_wp (v106 : BitVec 32) (hn : hi i w - lo i w ≤ base i + 0) :
    R d i q X w O W 0 ⊢ wp frame (wpE (defs₀ (F := F)) 𝒱₀ (thr d i) none) Set.univ (call (k0_part3 (F := F) i) v106) fun _ => R d i q X w O W 80 := by
  simp only [call, k0_part3_eq_skeleton, k0_part3_skel, Prog.lift, Prog.bind_op, Prog.bind_ret, Prog.pure_eq_ret]
  refine wp_zeros d i q X w O W (a := 0) rfl (off_a i (k0_off19_eq i 0) (by simp [wid]; omega)) (by omega) (by omega) ?_
  refine wp_zeros d i q X w O W (a := 16) rfl (off_a i (k0_off19_eq i 1) (by simp [wid]; omega)) (by omega) (by omega) ?_
  refine wp_zeros d i q X w O W (a := 32) rfl (off_a i (k0_off19_eq i 2) (by simp [wid]; omega)) (by omega) (by omega) ?_
  refine wp_zeros d i q X w O W (a := 48) rfl (off_a i (k0_off19_eq i 3) (by simp [wid]; omega)) (by omega) (by omega) ?_
  refine wp_zeros d i q X w O W (a := 64) rfl (off_a i (k0_off19_eq i 4) (by simp [wid]; omega)) (by omega) (by omega) ?_
  rw [wp_ret]; exact fupd_intro

/-- The first five zero copies of the chunk at 128. -/
theorem part4_wp (v124 : BitVec 32) (hn : hi i w - lo i w ≤ base i + 128) :
    R d i q X w O W 128 ⊢ wp frame (wpE (defs₀ (F := F)) 𝒱₀ (thr d i) none) Set.univ (call (k0_part4 (F := F) i) v124) fun _ => R d i q X w O W 208 := by
  simp only [call, k0_part4_eq_skeleton, k0_part4_skel, Prog.lift, Prog.bind_op, Prog.bind_ret, Prog.pure_eq_ret]
  refine wp_zeros d i q X w O W (a := 128) rfl (off_a i (k0_off25_eq i 0) (by simp [wid]; omega)) (by omega) (by omega) ?_
  refine wp_zeros d i q X w O W (a := 144) rfl (off_a i (k0_off25_eq i 1) (by simp [wid]; omega)) (by omega) (by omega) ?_
  refine wp_zeros d i q X w O W (a := 160) rfl (off_a i (k0_off25_eq i 2) (by simp [wid]; omega)) (by omega) (by omega) ?_
  refine wp_zeros d i q X w O W (a := 176) rfl (off_a i (k0_off25_eq i 3) (by simp [wid]; omega)) (by omega) (by omega) ?_
  refine wp_zeros d i q X w O W (a := 192) rfl (off_a i (k0_off25_eq i 4) (by simp [wid]; omega)) (by omega) (by omega) ?_
  rw [wp_ret]; exact fupd_intro

/-- The first five zero copies of the chunk at 256. -/
theorem part5_wp (v142 : BitVec 32) (hn : hi i w - lo i w ≤ base i + 256) :
    R d i q X w O W 256 ⊢ wp frame (wpE (defs₀ (F := F)) 𝒱₀ (thr d i) none) Set.univ (call (k0_part5 (F := F) i) v142) fun _ => R d i q X w O W 336 := by
  simp only [call, k0_part5_eq_skeleton, k0_part5_skel, Prog.lift, Prog.bind_op, Prog.bind_ret, Prog.pure_eq_ret]
  refine wp_zeros d i q X w O W (a := 256) rfl (off_a i (k0_off31_eq i 0) (by simp [wid]; omega)) (by omega) (by omega) ?_
  refine wp_zeros d i q X w O W (a := 272) rfl (off_a i (k0_off31_eq i 1) (by simp [wid]; omega)) (by omega) (by omega) ?_
  refine wp_zeros d i q X w O W (a := 288) rfl (off_a i (k0_off31_eq i 2) (by simp [wid]; omega)) (by omega) (by omega) ?_
  refine wp_zeros d i q X w O W (a := 304) rfl (off_a i (k0_off31_eq i 3) (by simp [wid]; omega)) (by omega) (by omega) ?_
  refine wp_zeros d i q X w O W (a := 320) rfl (off_a i (k0_off31_eq i 4) (by simp [wid]; omega)) (by omega) (by omega) ?_
  rw [wp_ret]; exact fupd_intro

/-- The first five zero copies of the chunk at 384. -/
theorem part6_wp (v160 : BitVec 32) (hn : hi i w - lo i w ≤ base i + 384) :
    R d i q X w O W 384 ⊢ wp frame (wpE (defs₀ (F := F)) 𝒱₀ (thr d i) none) Set.univ (call (k0_part6 (F := F) i) v160) fun _ => R d i q X w O W 464 := by
  simp only [call, k0_part6_eq_skeleton, k0_part6_skel, Prog.lift, Prog.bind_op, Prog.bind_ret, Prog.pure_eq_ret]
  refine wp_zeros d i q X w O W (a := 384) rfl (off_a i (k0_off37_eq i 0) (by simp [wid]; omega)) (by omega) (by omega) ?_
  refine wp_zeros d i q X w O W (a := 400) rfl (off_a i (k0_off37_eq i 1) (by simp [wid]; omega)) (by omega) (by omega) ?_
  refine wp_zeros d i q X w O W (a := 416) rfl (off_a i (k0_off37_eq i 2) (by simp [wid]; omega)) (by omega) (by omega) ?_
  refine wp_zeros d i q X w O W (a := 432) rfl (off_a i (k0_off37_eq i 3) (by simp [wid]; omega)) (by omega) (by omega) ?_
  refine wp_zeros d i q X w O W (a := 448) rfl (off_a i (k0_off37_eq i 4) (by simp [wid]; omega)) (by omega) (by omega) ?_
  rw [wp_ret]; exact fupd_intro

/-- One zero row, from the first of the scratch's. -/
theorem wp_pad {a : Nat} {o : Fin 2 → Nat} {inb : ∀ k, o k + (![1, 512] : Fin 2 → Nat) k ≤ S16384x512.size k}
    {inz : ∀ k, (![0, 0] : Fin 2 → Nat) k + (![1, 512] : Fin 2 → Nat) k ≤ S16x512.size k}
    {sem : DmaSem sig} {hsrc hdst hsem hsrc' hdst'} {α : Type} {k : PUnit → Prog (TpuEff nD τ sig (Elt F) Λ₀ (thr d i).2) α} {Q : α → sProp 𝕄}
    (hc : (SemLoc.dma sem : SemLoc sig).isScoped .scVector = true)
    (ho : o = ![512 * wid i + a, 0]) (han : a + 1 ≤ 512) (hn : hi i w - lo i w ≤ base i + a)
    (hk : R d i q X w O W (a + 1) ⊢ wp frame (wpE (defs₀ (F := F)) 𝒱₀ (thr d i) none) Set.univ (k ⟨⟩) Q) :
    R d i q X w O W a ⊢ wp frame (wpE (defs₀ (F := F)) 𝒱₀ (thr d i) none) Set.univ
      (.op (.enqueueDma ((zV).slice (Rect.unit (s := S16x512) ![0, 0] ![1, 512] inz) (fun _ => rfl))
          (.here ((oV).slice (Rect.unit (s := S16384x512) o ![1, 512] inb) (fun _ => rfl))) (.dma sem) hsrc hdst hsem) fun _ =>
        .op (.waitDma2 sem ((zV).slice (Rect.unit (s := S16x512) ![0, 0] ![1, 512] inz) (fun _ => rfl))
          ((oV).slice (Rect.unit (s := S16384x512) o ![1, 512] inb) (fun _ => rfl)) hsrc' hdst') k) Q :=
  wp_zero d i q X w O W (n := 1) hc (by decide) (pts_z d i) (fun _ => rfl) ho han hn hk

/-- How far a chunk is after its first conditional: all of it, or not begun. -/
def p1 (k : Nat) : Nat := if cnt i w k = 128 then k + 128 else k

/-- How far a chunk is after its second conditional. -/
def p2 (k : Nat) : Nat := if cnt i w k = 128 ∨ cnt i w k = 0 then k + 128 else k

/-- How far a row of the partial chunk is after its first conditional. -/
def pr (k t : Nat) : Nat := if t < cnt i w k then k + t + 1 else k + t

/-- One trip of the row loop of the chunk at 0. -/
theorem t2_wp (hw : Rng w) (v1 v29 v92 v99 v104 v106 v111 : BitVec 32) (hc1 : k0_chk1 i (w 0) (w 1) (w 2) (w 3) (w 4) (w 5) (w 6) (w 7) (w 8))
    (h3 : k0_cond3 i (w 0) (w 1) (w 2) (w 3) (w 4) (w 5) (w 6) (w 7) (w 8) = 1#1) (t : Fin k0_t2_loop.trips) (acc : Unit) :
    R d i q X w O W (0 + t.val) ⊢ wp frame (wpE (defs₀ (F := F)) 𝒱₀ (thr d i) none) Set.univ
      (call (k0_t2_body (F := F) i) v1 v29 (w 0) (w 1) (w 2) (w 3) (w 4) (w 5) (w 6) (w 7) (w 8) hc1 v92 v99 (cntW i w 0#32) v104 v106 v111 h3 t acc) fun _ => R d i q X w O W (0 + t.val + 1) := by
  have ht : t.val < 128 := Nat.lt_of_lt_of_le t.isLt k0_t2_abs.2.1
  have hcl : cnt i w 0 ≤ 128 := Nat.min_le_left _ _
  have hcr : cnt i w 0 ≤ hi i w - lo i w - base i - 0 := Nat.min_le_right _ _
  have hcz : cnt i w 0 < 128 → cnt i w 0 = hi i w - lo i w - base i - 0 := by unfold cnt; omega
  have hz := ((cond3_iff i hw).1 h3).2
  unfold call k0_t2_body
  extract_lets -underBinder arg7 jp
  have hjp : R d i q X w O W (pr i w 0 t.val) ⊢ wp frame (wpE (defs₀ (F := F)) 𝒱₀ (thr d i) none) Set.univ (jp ⟨⟩) fun _ => R d i q X w O W (0 + t.val + 1) := by
    unfold pr
    rcases Classical.em (t.val < cnt i w 0) with hlt | hlt
    · simp only [jp, Prog.lift, Prog.bind_op, Prog.bind_ret, Prog.pure_eq_ret]
      rw [if_pos hlt, if_neg (fun e => (pad_iff i hw (k := 0) (by omega) t.val ht).1 e hlt)]
      rw [wp_ret]; exact fupd_intro
    · simp only [jp, Prog.lift, Prog.bind_op, Prog.bind_ret, Prog.pure_eq_ret]
      rw [if_neg hlt, if_pos ((pad_iff i hw (k := 0) (by omega) t.val ht).2 hlt)]
      refine wp_pad d i q X w O W rfl (off_a i (k0_off22_eq i t) (by simp [wid]; omega)) (by omega) (by omega) ?_
      rw [wp_ret]; exact fupd_intro
  clear_value jp
  rcases Classical.em (t.val < cnt i w 0) with hlt | hlt
  · rw [dif_pos ((cond4_iff i hw t).2 hlt)]
    simp only [Prog.lift, Prog.bind_op, Prog.bind_ret]
    refine wp_token d i q X w O W (n := 1) rfl (by decide) hw (off_a i (k0_off20_eq i t) (by simp [wid]; omega)) (off_t (off21_eq i hw t)) (by omega) (by omega) ?_
    rw [pr, if_pos hlt] at hjp
    exact hjp
  · rw [dif_neg (fun e => hlt ((cond4_iff i hw t).1 e))]
    rw [pr, if_neg hlt] at hjp
    exact hjp

/-- One trip of the row loop of the chunk at 128. -/
theorem t3_wp (hw : Rng w) (v1 v29 v92 v99 v102 v104 v106 v111 : BitVec 32) (hc1 : k0_chk1 i (w 0) (w 1) (w 2) (w 3) (w 4) (w 5) (w 6) (w 7) (w 8))
    (h3 : k0_cond8 i (w 0) (w 1) (w 2) (w 3) (w 4) (w 5) (w 6) (w 7) (w 8) = 1#1) (t : Fin k0_t3_loop.trips) (acc : Unit) :
    R d i q X w O W (128 + t.val) ⊢ wp frame (wpE (defs₀ (F := F)) 𝒱₀ (thr d i) none) Set.univ
      (call (k0_t3_body (F := F) i) v1 v29 (w 0) (w 1) (w 2) (w 3) (w 4) (w 5) (w 6) (w 7) (w 8) hc1 v92 v99 v102 v104 v106 v111 (cntW i w 128#32) h3 t acc) fun _ => R d i q X w O W (128 + t.val + 1) := by
  have ht : t.val < 128 := Nat.lt_of_lt_of_le t.isLt k0_t3_abs.2.1
  have hcl : cnt i w 128 ≤ 128 := Nat.min_le_left _ _
  have hcr : cnt i w 128 ≤ hi i w - lo i w - base i - 128 := Nat.min_le_right _ _
  have hcz : cnt i w 128 < 128 → cnt i w 128 = hi i w - lo i w - base i - 128 := by unfold cnt; omega
  have hz := ((cond8_iff i hw).1 h3).2
  unfold call k0_t3_body
  extract_lets -underBinder arg7 jp
  have hjp : R d i q X w O W (pr i w 128 t.val) ⊢ wp frame (wpE (defs₀ (F := F)) 𝒱₀ (thr d i) none) Set.univ (jp ⟨⟩) fun _ => R d i q X w O W (128 + t.val + 1) := by
    unfold pr
    rcases Classical.em (t.val < cnt i w 128) with hlt | hlt
    · simp only [jp, Prog.lift, Prog.bind_op, Prog.bind_ret, Prog.pure_eq_ret]
      rw [if_pos hlt, if_neg (fun e => (pad_iff i hw (k := 128) (by omega) t.val ht).1 e hlt)]
      rw [wp_ret]; exact fupd_intro
    · simp only [jp, Prog.lift, Prog.bind_op, Prog.bind_ret, Prog.pure_eq_ret]
      rw [if_neg hlt, if_pos ((pad_iff i hw (k := 128) (by omega) t.val ht).2 hlt)]
      refine wp_pad d i q X w O W rfl (off_a i (k0_off28_eq i t) (by simp [wid]; omega)) (by omega) (by omega) ?_
      rw [wp_ret]; exact fupd_intro
  clear_value jp
  rcases Classical.em (t.val < cnt i w 128) with hlt | hlt
  · rw [dif_pos ((cond9_iff i hw t).2 hlt)]
    simp only [Prog.lift, Prog.bind_op, Prog.bind_ret]
    refine wp_token d i q X w O W (n := 1) rfl (by decide) hw (off_a i (k0_off26_eq i t) (by simp [wid]; omega)) (off_t (off27_eq i hw t)) (by omega) (by omega) ?_
    rw [pr, if_pos hlt] at hjp
    exact hjp
  · rw [dif_neg (fun e => hlt ((cond9_iff i hw t).1 e))]
    rw [pr, if_neg hlt] at hjp
    exact hjp

/-- One trip of the row loop of the chunk at 256. -/
theorem t4_wp (hw : Rng w) (hc1 : k0_chk1 i (w 0) (w 1) (w 2) (w 3) (w 4) (w 5) (w 6) (w 7) (w 8))
    (h3 : k0_cond13 i (w 0) (w 1) (w 2) (w 3) (w 4) (w 5) (w 6) (w 7) (w 8) = 1#1) (t : Fin k0_t4_loop.trips) (acc : Unit) :
    R d i q X w O W (256 + t.val) ⊢ wp frame (wpE (defs₀ (F := F)) 𝒱₀ (thr d i) none) Set.univ
      (call (k0_t4_body (F := F) i) (w 0) (w 1) (w 2) (w 3) (w 4) (w 5) (w 6) (w 7) (w 8) hc1 (cntW i w 256#32) h3 t acc) fun _ => R d i q X w O W (256 + t.val + 1) := by
  have ht : t.val < 128 := Nat.lt_of_lt_of_le t.isLt k0_t4_abs.2.1
  have hcl : cnt i w 256 ≤ 128 := Nat.min_le_left _ _
  have hcr : cnt i w 256 ≤ hi i w - lo i w - base i - 256 := Nat.min_le_right _ _
  have hcz : cnt i w 256 < 128 → cnt i w 256 = hi i w - lo i w - base i - 256 := by unfold cnt; omega
  have hz := ((cond13_iff i hw).1 h3).2
  unfold call k0_t4_body
  extract_lets -underBinder arg7 jp
  have hjp : R d i q X w O W (pr i w 256 t.val) ⊢ wp frame (wpE (defs₀ (F := F)) 𝒱₀ (thr d i) none) Set.univ (jp ⟨⟩) fun _ => R d i q X w O W (256 + t.val + 1) := by
    unfold pr
    rcases Classical.em (t.val < cnt i w 256) with hlt | hlt
    · simp only [jp, Prog.lift, Prog.bind_op, Prog.bind_ret, Prog.pure_eq_ret]
      rw [if_pos hlt, if_neg (fun e => (pad_iff i hw (k := 256) (by omega) t.val ht).1 e hlt)]
      rw [wp_ret]; exact fupd_intro
    · simp only [jp, Prog.lift, Prog.bind_op, Prog.bind_ret, Prog.pure_eq_ret]
      rw [if_neg hlt, if_pos ((pad_iff i hw (k := 256) (by omega) t.val ht).2 hlt)]
      refine wp_pad d i q X w O W rfl (off_a i (k0_off34_eq i t) (by simp [wid]; omega)) (by omega) (by omega) ?_
      rw [wp_ret]; exact fupd_intro
  clear_value jp
  rcases Classical.em (t.val < cnt i w 256) with hlt | hlt
  · rw [dif_pos ((cond14_iff i hw t).2 hlt)]
    simp only [Prog.lift, Prog.bind_op, Prog.bind_ret]
    refine wp_token d i q X w O W (n := 1) rfl (by decide) hw (off_a i (k0_off32_eq i t) (by simp [wid]; omega)) (off_t (off33_eq i hw t)) (by omega) (by omega) ?_
    rw [pr, if_pos hlt] at hjp
    exact hjp
  · rw [dif_neg (fun e => hlt ((cond14_iff i hw t).1 e))]
    rw [pr, if_neg hlt] at hjp
    exact hjp

/-- One trip of the row loop of the chunk at 384. -/
theorem t5_wp (hw : Rng w) (hc1 : k0_chk1 i (w 0) (w 1) (w 2) (w 3) (w 4) (w 5) (w 6) (w 7) (w 8))
    (h3 : k0_cond18 i (w 0) (w 1) (w 2) (w 3) (w 4) (w 5) (w 6) (w 7) (w 8) = 1#1) (t : Fin k0_t5_loop.trips) (acc : Unit) :
    R d i q X w O W (384 + t.val) ⊢ wp frame (wpE (defs₀ (F := F)) 𝒱₀ (thr d i) none) Set.univ
      (call (k0_t5_body (F := F) i) (w 0) (w 1) (w 2) (w 3) (w 4) (w 5) (w 6) (w 7) (w 8) hc1 (cntW i w 384#32) h3 t acc) fun _ => R d i q X w O W (384 + t.val + 1) := by
  have ht : t.val < 128 := Nat.lt_of_lt_of_le t.isLt k0_t5_abs.2.1
  have hcl : cnt i w 384 ≤ 128 := Nat.min_le_left _ _
  have hcr : cnt i w 384 ≤ hi i w - lo i w - base i - 384 := Nat.min_le_right _ _
  have hcz : cnt i w 384 < 128 → cnt i w 384 = hi i w - lo i w - base i - 384 := by unfold cnt; omega
  have hz := ((cond18_iff i hw).1 h3).2
  unfold call k0_t5_body
  extract_lets -underBinder arg7 jp
  have hjp : R d i q X w O W (pr i w 384 t.val) ⊢ wp frame (wpE (defs₀ (F := F)) 𝒱₀ (thr d i) none) Set.univ (jp ⟨⟩) fun _ => R d i q X w O W (384 + t.val + 1) := by
    unfold pr
    rcases Classical.em (t.val < cnt i w 384) with hlt | hlt
    · simp only [jp, Prog.lift, Prog.bind_op, Prog.bind_ret, Prog.pure_eq_ret]
      rw [if_pos hlt, if_neg (fun e => (pad_iff i hw (k := 384) (by omega) t.val ht).1 e hlt)]
      rw [wp_ret]; exact fupd_intro
    · simp only [jp, Prog.lift, Prog.bind_op, Prog.bind_ret, Prog.pure_eq_ret]
      rw [if_neg hlt, if_pos ((pad_iff i hw (k := 384) (by omega) t.val ht).2 hlt)]
      refine wp_pad d i q X w O W rfl (off_a i (k0_off40_eq i t) (by simp [wid]; omega)) (by omega) (by omega) ?_
      rw [wp_ret]; exact fupd_intro
  clear_value jp
  rcases Classical.em (t.val < cnt i w 384) with hlt | hlt
  · rw [dif_pos ((cond19_iff i hw t).2 hlt)]
    simp only [Prog.lift, Prog.bind_op, Prog.bind_ret]
    refine wp_token d i q X w O W (n := 1) rfl (by decide) hw (off_a i (k0_off38_eq i t) (by simp [wid]; omega)) (off_t (off39_eq i hw t)) (by omega) (by omega) ?_
    rw [pr, if_pos hlt] at hjp
    exact hjp
  · rw [dif_neg (fun e => hlt ((cond19_iff i hw t).1 e))]
    rw [pr, if_neg hlt] at hjp
    exact hjp

/-- A chunk copied whole. -/
theorem wp_full {k : Nat} {o o' : Fin 2 → Nat} {inb : ∀ k, o k + (![128, 512] : Fin 2 → Nat) k ≤ S16384x512.size k}
    {inb' : ∀ k, o' k + (![128, 512] : Fin 2 → Nat) k ≤ S8192x512.size k}
    {sem : DmaSem sig} {hsrc hdst hsem hsrc' hdst'} {α : Type} {kk : PUnit → Prog (TpuEff nD τ sig (Elt F) Λ₀ (thr d i).2) α} {Q : α → sProp 𝕄}
    (hc : (SemLoc.dma sem : SemLoc sig).isScoped .scVector = true)
    (hw : Rng w) (ho : o = ![512 * wid i + k, 0]) (ho' : o' = ![lo i w + base i + k, 0]) (han : k + 128 ≤ 512) (hn : cnt i w k = 128)
    (hk : R d i q X w O W (p1 i w k) ⊢ wp frame (wpE (defs₀ (F := F)) 𝒱₀ (thr d i) none) Set.univ (kk ⟨⟩) Q) :
    R d i q X w O W k ⊢ wp frame (wpE (defs₀ (F := F)) 𝒱₀ (thr d i) none) Set.univ
      (.op (.enqueueDma ((fV).slice (Rect.unit (s := S8192x512) o' ![128, 512] inb') (fun _ => rfl))
          (.here ((oV).slice (Rect.unit (s := S16384x512) o ![128, 512] inb) (fun _ => rfl))) (.dma sem) hsrc hdst hsem) fun _ =>
        .op (.waitDma2 sem ((fV).slice (Rect.unit (s := S8192x512) o' ![128, 512] inb') (fun _ => rfl))
          ((oV).slice (Rect.unit (s := S16384x512) o ![128, 512] inb) (fun _ => rfl)) hsrc' hdst') kk) Q := by
  refine wp_token d i q X w O W (n := 128) hc (by decide) hw ho ho' han (by unfold cnt at hn; omega) ?_
  rw [p1, if_pos hn] at hk
  exact hk

/-- The state at an equal row count. -/
theorem R_of_eq {a b : Nat} (h : a = b) : (R d i q X w O W a : sProp 𝕄) ⊢ R d i q X w O W b := by rw [h]

/-- A chunk not copied whole. -/
theorem p1_skip {k : Nat} (hn : ¬ cnt i w k = 128) : p1 i w k = k := if_neg hn

/-- A chunk that is zeroed starts at its first row. -/
theorem p1_zero {k : Nat} (hn : cnt i w k = 0) : p1 i w k = k := if_neg (by omega)

/-- After the zeroing of an empty chunk the whole chunk is done. -/
theorem p2_zero {k : Nat} (hn : cnt i w k = 0) : p2 i w k = k + 128 := if_pos (.inr hn)

/-- A chunk that is not empty is left by the zeroing as it was. -/
theorem p2_skip {k : Nat} (hn : ¬ cnt i w k = 0) : p2 i w k = p1 i w k := by
  unfold p1 p2
  by_cases h : cnt i w k = 128
  · rw [if_pos h, if_pos (.inl h)]
  · rw [if_neg h, if_neg (by omega)]

/-- Before the loop over rows nothing of a partial chunk is done. -/
theorem p2_part {k : Nat} (hn : 0 < cnt i w k ∧ cnt i w k < 128) : p2 i w k = k := if_neg (by omega)

/-- A chunk that is not partial is done before the loop over rows. -/
theorem p2_done {k : Nat} (hn : ¬ (0 < cnt i w k ∧ cnt i w k < 128)) : p2 i w k = k + 128 := by
  have hcl : cnt i w k ≤ 128 := Nat.min_le_left _ _
  exact if_pos (by omega)

/-- An empty chunk lies past its segment's end. -/
theorem cnt_zero {k : Nat} (hn : cnt i w k = 0) : hi i w - lo i w ≤ base i + k := by unfold cnt at hn; omega

end Chunk

end Cert.Proof.KernelIdeal
-- ==== Proof.IdealParts.lean ====
module

public import proofs.«01_k».proof.Proof.IdealChunk

@[expose] public section

set_option maxRecDepth 16384

noncomputable section

/-! # The tile's chunks
The conditionals of each chunk, in the order of the kernel's text. -/

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

attribute [local irreducible] Scalar.select Scalar.cmpi Scalar.addi Scalar.subi Scalar.muli Scalar.minsi Scalar.maxsi Scalar.extui segW baseW widW

/-- The select chain over the first five words. -/
def v72W (b : BitVec 32) (w : Fin 9 → BitVec 32) : BitVec 32 :=
  Scalar.select (Scalar.cmpi .eq b 4#32) (w 4) <| Scalar.select (Scalar.cmpi .eq b 3#32) (w 3) <|
  Scalar.select (Scalar.cmpi .eq b 2#32) (w 2) <| Scalar.select (Scalar.cmpi .eq b 1#32) (w 1) <|
  Scalar.select (Scalar.cmpi .eq b 0#32) (w 0) 0#32

/-- The tile's row count word, before it is cut into chunks. -/
def lenW (i : grid0.Coords) (w : Fin 9 → BitVec 32) : BitVec 32 :=
  Scalar.minsi 512#32 (Scalar.maxsi 0#32
    (Scalar.subi (Scalar.subi (loW (Scalar.addi (segW (widW i)) 1#32) w) (loW (segW (widW i)) w)) (baseW (widW i))))

section Parts
variable (d : Dev nD) (i : grid0.Coords) (q : PosShare TreeShare) (X : S8192x512.Idx → F .f32) (w : Fin 9 → BitVec 32)
  (O : CellTallies nD τ sig (HIx 1)) (W : Waits sig (HIx 1))

/-- The first conditional of the first chunk: after it the chunk is copied, or not begun. -/
theorem part9_wp (hw : Rng w) (hc1 : k0_chk1 i (w 0) (w 1) (w 2) (w 3) (w 4) (w 5) (w 6) (w 7) (w 8)) :
    R d i q X w O W 0 ⊢ wp frame (wpE (defs₀ (F := F)) 𝒱₀ (thr d i) none) Set.univ
      (call (k0_part9 (F := F) i) (widW i) (segW (widW i)) (baseW (widW i)) (w 0) (w 1) (w 2) (w 3) (w 4) (w 5) (w 6) (w 7) (w 8) hc1 (v72W (segW (widW i)) w) (v72W (Scalar.addi (segW (widW i)) 1#32) w))
      fun r => iprop(⌜r.1 = loW (segW (widW i)) w ∧ r.2.1 = lenW i w ∧ r.2.2.1 = cntW i w 0#32 ∧ r.2.2.2.2.2 = Scalar.extui (Scalar.cmpi .eq (cntW i w 0#32) 0#32)⌝ ∗ R d i q X w O W (p1 i w 0)) := by
  rw [call, k0_part9_eq_skeleton]
  unfold k0_part9_skel
  extract_lets -underBinder -merge v76 v77 v78 v79 v80 v81 v82 v83 v84 v85 v86 v87 v88 v89 v90 v91 v92 v93 v94 v95 v96 v97 v98 v99 v100 v101 v102 v103 v104 v105 v106 jp
  have hjp : R d i q X w O W (p1 i w 0) ⊢ wp frame (wpE (defs₀ (F := F)) 𝒱₀ (thr d i) none) Set.univ (jp ⟨⟩) fun r => iprop(⌜r.1 = loW (segW (widW i)) w ∧ r.2.1 = lenW i w ∧ r.2.2.1 = cntW i w 0#32 ∧ r.2.2.2.2.2 = Scalar.extui (Scalar.cmpi .eq (cntW i w 0#32) 0#32)⌝ ∗ R d i q X w O W (p1 i w 0)) := by
    simp only [jp, Prog.pure_eq_ret]
    rw [wp_ret]
    refine BIBase.Entails.trans ?_ fupd_intro
    iintro HR
    isplitr
    · ipureintro; exact ⟨rfl, rfl, rfl, rfl⟩
    iexact HR
  clear_value jp
  rcases Classical.em (cnt i w 0 = 128) with h | h
  · rw [dif_pos ((cond1_iff i hw).2 h)]
    simp only [Prog.lift, Prog.bind_op, Prog.bind_ret]
    exact wp_full d i q X w O W rfl hw (off_a i (k0_off17_eq i) (by simp [wid]; omega)) (off18_eq i hw) (by omega) h hjp
  · rw [dif_neg (fun e => h ((cond1_iff i hw).1 e))]
    exact BIBase.Entails.trans (R_of_eq d i q X w O W (p1_skip i w h).symm) hjp

/-- The rest of the first chunk, and the second chunk. -/
theorem part10_wp (hw : Rng w) (hc1 : k0_chk1 i (w 0) (w 1) (w 2) (w 3) (w 4) (w 5) (w 6) (w 7) (w 8)) (v92 v104 v106 : BitVec 32) :
    R d i q X w O W (p1 i w 0) ⊢ wp frame (wpE (defs₀ (F := F)) 𝒱₀ (thr d i) none) Set.univ
      (call (k0_part10 (F := F) i) (widW i) (baseW (widW i)) (w 0) (w 1) (w 2) (w 3) (w 4) (w 5) (w 6) (w 7) (w 8) hc1 v92 (lenW i w) (cntW i w 0#32) v104 v106 (Scalar.extui (Scalar.cmpi .eq (cntW i w 0#32) 0#32))) (fun r => iprop(⌜r.1 = cntW i w 256#32⌝ ∗ R d i q X w O W 256)) := by
  rw [call, k0_part10_eq_skeleton]
  unfold k0_part10_skel
  extract_lets -underBinder -merge v112 jp5
  have hjp5 : R d i q X w O W (p2 i w 0) ⊢ wp frame (wpE (defs₀ (F := F)) 𝒱₀ (thr d i) none) Set.univ (jp5 ⟨⟩) (fun r => iprop(⌜r.1 = cntW i w 256#32⌝ ∗ R d i q X w O W 256)) := by
    simp (config := {zeta := false}) only [jp5]
    clear jp5
    extract_lets -underBinder -merge jp4
    have hjp4 : R d i q X w O W (128) ⊢ wp frame (wpE (defs₀ (F := F)) 𝒱₀ (thr d i) none) Set.univ (jp4 ⟨⟩) (fun r => iprop(⌜r.1 = cntW i w 256#32⌝ ∗ R d i q X w O W 256)) := by
      simp (config := {zeta := false}) only [jp4]
      clear jp4
      extract_lets -underBinder -merge v118 v119 v120 v123 v124 jp3
      have hjp3 : R d i q X w O W (p1 i w 128) ⊢ wp frame (wpE (defs₀ (F := F)) 𝒱₀ (thr d i) none) Set.univ (jp3 ⟨⟩) (fun r => iprop(⌜r.1 = cntW i w 256#32⌝ ∗ R d i q X w O W 256)) := by
        simp (config := {zeta := false}) only [jp3]
        clear jp3
        extract_lets -underBinder -merge v128 v129 v130 jp2
        have hjp2 : R d i q X w O W (p2 i w 128) ⊢ wp frame (wpE (defs₀ (F := F)) 𝒱₀ (thr d i) none) Set.univ (jp2 ⟨⟩) (fun r => iprop(⌜r.1 = cntW i w 256#32⌝ ∗ R d i q X w O W 256)) := by
          simp (config := {zeta := false}) only [jp2]
          clear jp2
          extract_lets -underBinder -merge jp1
          have hjp1 : R d i q X w O W (256) ⊢ wp frame (wpE (defs₀ (F := F)) 𝒱₀ (thr d i) none) Set.univ (jp1 ⟨⟩) (fun r => iprop(⌜r.1 = cntW i w 256#32⌝ ∗ R d i q X w O W 256)) := by
            simp (config := {zeta := false}) only [jp1]
            clear jp1
            simp only [Prog.pure_eq_ret]
            rw [wp_ret]
            refine BIBase.Entails.trans ?_ fupd_intro
            iintro HR
            isplitr
            · ipureintro; rfl
            iexact HR
          clear_value jp1
          rcases Classical.em (0 < cnt i w 128 ∧ cnt i w 128 < 128) with h | h
          · have h3 := (cond8_iff i hw).2 h
            rw [dif_pos h3, wp_bind]
            refine BIBase.Entails.trans (R_of_eq d i q X w O W (p2_part i w h)) ?_
            refine BIBase.Entails.trans ?_ (Scf.wp_for _ _ _ _ _ _ _ _ _ (fun t _ => R d i q X w O W (128 + t)) (t3_wp d i q X w O W hw (widW i) (baseW (widW i)) v92 (lenW i w) (cntW i w 0#32) v104 v106 (Scalar.extui (Scalar.cmpi .eq (cntW i w 0#32) 0#32)) hc1 h3))
            have ht : Scf.trips k0_t3_loop.lb k0_t3_loop.ub k0_t3_loop.st = 128 := by decide +kernel
            rw [ht]
            iintro HR
            isplitl [HR]; · iexact HR
            iintro %acc HR
            iapply hjp1 $$ HR
          · rw [dif_neg (fun e => h ((cond8_iff i hw).1 e))]
            exact BIBase.Entails.trans (R_of_eq d i q X w O W (p2_done i w h)) hjp1
        clear_value jp2
        have hzi : v130 = 1#1 ↔ cnt i w 128 = 0 := zero_iff i hw (k := 128) (by omega)
        rcases Classical.em (cnt i w 128 = 0) with h | h
        · rw [if_pos (hzi.2 h), wp_bind]
          refine BIBase.Entails.trans (R_of_eq d i q X w O W (p1_zero i w h)) ?_
          replace hjp2 := BIBase.Entails.trans (R_of_eq d i q X w O W (p2_zero i w h).symm) hjp2
          have hz := cnt_zero i w h
          refine BIBase.Entails.trans (part4_wp d i q X w O W v124 hz) (wp_mono _ _ _ fun _ => ?_)
          simp only [Prog.lift, Prog.bind_op, Prog.bind_ret]
          refine wp_zeros d i q X w O W (a := 208) rfl (off_a i (k0_off25_eq i 5) (by simp [wid]; omega)) (by omega) (by omega) ?_
          refine wp_zeros d i q X w O W (a := 224) rfl (off_a i (k0_off25_eq i 6) (by simp [wid]; omega)) (by omega) (by omega) ?_
          refine wp_zeros d i q X w O W (a := 240) rfl (off_a i (k0_off25_eq i 7) (by simp [wid]; omega)) (by omega) (by omega) ?_
          exact hjp2
        · rw [if_neg (fun e => h (hzi.1 e))]
          exact BIBase.Entails.trans (R_of_eq d i q X w O W (p2_skip i w h).symm) hjp2
      clear_value jp3
      rcases Classical.em (cnt i w 128 = 128) with h | h
      · rw [dif_pos ((cond6_iff i hw).2 h)]
        simp only [Prog.lift, Prog.bind_op, Prog.bind_ret]
        exact wp_full d i q X w O W rfl hw (off_a i (k0_off23_eq i) (by simp [wid]; omega)) (off24_eq i hw) (by omega) h hjp3
      · rw [dif_neg (fun e => h ((cond6_iff i hw).1 e))]
        exact BIBase.Entails.trans (R_of_eq d i q X w O W (p1_skip i w h).symm) hjp3
    clear_value jp4
    rcases Classical.em (0 < cnt i w 0 ∧ cnt i w 0 < 128) with h | h
    · have h3 := (cond3_iff i hw).2 h
      rw [dif_pos h3, wp_bind]
      refine BIBase.Entails.trans (R_of_eq d i q X w O W (p2_part i w h)) ?_
      refine BIBase.Entails.trans ?_ (Scf.wp_for _ _ _ _ _ _ _ _ _ (fun t _ => R d i q X w O W (0 + t)) (t2_wp d i q X w O W hw (widW i) (baseW (widW i)) v92 (lenW i w) v104 v106 (Scalar.extui (Scalar.cmpi .eq (cntW i w 0#32) 0#32)) hc1 h3))
      have ht : Scf.trips k0_t2_loop.lb k0_t2_loop.ub k0_t2_loop.st = 128 := by decide +kernel
      rw [ht]
      iintro HR
      isplitl [HR]; · iexact HR
      iintro %acc HR
      iapply hjp4 $$ HR
    · rw [dif_neg (fun e => h ((cond3_iff i hw).1 e))]
      exact BIBase.Entails.trans (R_of_eq d i q X w O W (p2_done i w h)) hjp4
  clear_value jp5
  have hzi : v112 = 1#1 ↔ cnt i w 0 = 0 := zero_iff i hw (k := 0) (by omega)
  rcases Classical.em (cnt i w 0 = 0) with h | h
  · rw [if_pos (hzi.2 h), wp_bind]
    refine BIBase.Entails.trans (R_of_eq d i q X w O W (p1_zero i w h)) ?_
    replace hjp5 := BIBase.Entails.trans (R_of_eq d i q X w O W (p2_zero i w h).symm) hjp5
    have hz := cnt_zero i w h
    refine BIBase.Entails.trans (part3_wp d i q X w O W v106 hz) (wp_mono _ _ _ fun _ => ?_)
    simp only [Prog.lift, Prog.bind_op, Prog.bind_ret]
    refine wp_zeros d i q X w O W (a := 80) rfl (off_a i (k0_off19_eq i 5) (by simp [wid]; omega)) (by omega) (by omega) ?_
    refine wp_zeros d i q X w O W (a := 96) rfl (off_a i (k0_off19_eq i 6) (by simp [wid]; omega)) (by omega) (by omega) ?_
    refine wp_zeros d i q X w O W (a := 112) rfl (off_a i (k0_off19_eq i 7) (by simp [wid]; omega)) (by omega) (by omega) ?_
    exact hjp5
  · rw [if_neg (fun e => h (hzi.1 e))]
    exact BIBase.Entails.trans (R_of_eq d i q X w O W (p2_skip i w h).symm) hjp5

end Parts

end Cert.Proof.KernelIdeal
-- ==== Proof.IdealFill.lean ====
module

public import proofs.«01_k».proof.Proof.IdealParts

@[expose] public section

set_option maxRecDepth 16384

noncomputable section

/-! # The zero rows and the boundary words
The loop that clears the tile's sixteen scratch rows, the copy of the boundary words into the tile and their
extraction as scalars. -/

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- The scratch's columns before `16 t` are zero, and the next sixteen in the first `r` rows. -/
def Z (d : Dev nD) (i : grid0.Coords) (t r : Nat) : sProp 𝕄 :=
  iprop(∃ f : S16x512.Idx → F .f32, ⌜∀ x : S16x512.Idx, (x 1).val < 16 * t ∨ ((x 1).val < 16 * t + 16 ∧ (x 0).val < r) → f x = zf⌝
    ∗ (zV).view.loc (thr d i) ↦{fullShare} (f : Buf (Elt F) ((zV).view.loc (thr d i))))

/-- One load, unused, and the store of sixteen zeros. -/
theorem wp_fill (d : Dev nD) (i : grid0.Coords) {t r : Nat} {o : Fin 2 → Nat} {inb : ∀ k, o k + (![1, 16] : Fin 2 → Nat) k ≤ S16x512.size k}
    {hl hx hm} {pay : (Rect.unit (s := S16x512) o ![1, 16] inb).shape.Idx → F .f32} {α : Type} {k : PUnit → Prog (TpuEff nD τ sig (Elt F) Λ₀ (thr d i).2) α} {Q : α → sProp 𝕄}
    (ho : o = ![r, 16 * t]) (hp : ∀ y, pay y = zf)
    (hk : Z d i t (r + 1) ⊢ wp frame (wpE (defs₀ (F := F)) 𝒱₀ (thr d i) none) Set.univ (k ⟨⟩) Q) :
    Z d i t r ⊢ wp frame (wpE (defs₀ (F := F)) 𝒱₀ (thr d i) none) Set.univ
      (.op (.load zV (Rect.unit (s := S16x512) o ![1, 16] inb).toLoadRect hl) fun _ =>
        .op (.store zV (Rect.unit (s := S16x512) o ![1, 16] inb) pay Finset.univ hx hm) k) Q := by
  unfold Z
  iintro ⟨%f, %hf, Hf⟩
  iapply (wp_load (m := zV) 𝒱₀ (thr d i) none Set.univ (Finset.subset_univ _)) $$ Hf
  iintro Hf
  iapply (wp_store (m := zV) (r := Rect.unit (s := S16x512) o ![1, 16] inb) 𝒱₀ (thr d i) none Set.univ (Finset.subset_univ _)) $$ Hf
  iintro Hf
  iapply hk
  unfold Z
  iexists _; isplitr
  swap; · iexact Hf
  ipureintro
  subst ho
  intro x hx
  by_cases hm : x ∈ ((zV).view.slice (Rect.unit (s := S16x512) ![r, 16 * t] ![1, 16] inb)).set
  · obtain ⟨y, rfl⟩ := View.exists_of_mem_set_slice hm
    have e := View.write_emb_of_mem (Val := Elt F) (v := (zV).access (Rect.unit (s := S16x512) ![r, 16 * t] ![1, 16] inb))
      f pay (Finset.mem_univ y)
    exact e.trans ((cast_eq _ _).trans (hp y))
  · rw [View.write_of_not_mem]
    · apply hf x
      apply Classical.byContradiction; intro hge
      apply hm
      rw [View.set_slice_whole, Rect.mem_set_unit]
      intro k
      match k with
      | 0 => exact ⟨by show r ≤ (x 0).val; omega, by show (x 0).val < r + 1; omega⟩
      | 1 => exact ⟨by show 16 * t ≤ (x 1).val; omega, by show (x 1).val < 16 * t + 16; omega⟩
    · rw [View.setOn_univ]; exact hm

/-- All sixteen rows of a column block are the block. -/
theorem Z_next (d : Dev nD) (i : grid0.Coords) (t : Nat) : (Z d i t 16 : sProp 𝕄) ⊢ Z d i (t + 1) 0 := by
  unfold Z
  iintro ⟨%f, %hf, Hf⟩
  iexists f; isplitr
  · ipureintro; intro x hx
    have h0 : (x 0).val < 16 := (x 0).isLt
    exact hf x (by omega)
  iexact Hf

/-- One trip of the loop that clears the scratch. -/
theorem t1_wp (d : Dev nD) (i : grid0.Coords) (t : Fin k0_t1_loop.trips) (acc : Unit) :
    Z d i t.val 0 ⊢ wp frame (wpE (defs₀ (F := F)) 𝒱₀ (thr d i) none) Set.univ (call (k0_t1_body (F := F) i) t acc) fun _ => Z d i (t.val + 1) 0 := by
  simp only [call, k0_t1_body, k0_part1_eq_skeleton, k0_part1_skel, k0_part2_eq_skeleton, k0_part2_skel, Prog.lift, Prog.bind_op, Prog.bind_ret, Prog.pure_eq_ret]
  refine wp_fill d i (r := 0) (k0_off1_eq t) (fun _ => rfl) ?_
  refine wp_fill d i (r := 1) (k0_off2_eq t) (fun _ => rfl) ?_
  refine wp_fill d i (r := 2) (k0_off3_eq t) (fun _ => rfl) ?_
  refine wp_fill d i (r := 3) (k0_off4_eq t) (fun _ => rfl) ?_
  refine wp_fill d i (r := 4) (k0_off5_eq t) (fun _ => rfl) ?_
  refine wp_fill d i (r := 5) (k0_off6_eq t) (fun _ => rfl) ?_
  refine wp_fill d i (r := 6) (k0_off7_eq t) (fun _ => rfl) ?_
  refine wp_fill d i (r := 7) (k0_off8_eq t) (fun _ => rfl) ?_
  refine wp_fill d i (r := 8) (k0_off9_eq t) (fun _ => rfl) ?_
  refine wp_fill d i (r := 9) (k0_off10_eq t) (fun _ => rfl) ?_
  refine wp_fill d i (r := 10) (k0_off11_eq t) (fun _ => rfl) ?_
  refine wp_fill d i (r := 11) (k0_off12_eq t) (fun _ => rfl) ?_
  refine wp_fill d i (r := 12) (k0_off13_eq t) (fun _ => rfl) ?_
  refine wp_fill d i (r := 13) (k0_off14_eq t) (fun _ => rfl) ?_
  refine wp_fill d i (r := 14) (k0_off15_eq t) (fun _ => rfl) ?_
  refine wp_fill d i (r := 15) (k0_off16_eq t) (fun _ => rfl) ?_
  rw [wp_ret]
  exact BIBase.Entails.trans (Z_next d i t.val) fupd_intro

/-- The boundary words, read off the sixteen that the tile holds. -/
def wds (C : S16.Idx → BitVec 32) (j : Fin 9) : BitVec 32 := C fun | 0 => ⟨j.val, Nat.lt_of_lt_of_le j.isLt (by decide)⟩

/-- The tile's state at its start. -/
def Pre (d : Dev nD) (i : grid0.Coords) (q q' : PosShare TreeShare) (X : S8192x512.Idx → F .f32) (C : S16.Idx → BitVec 32)
    (O : CellTallies nD τ sig (HIx 1)) (W : Waits sig (HIx 1)) : sProp 𝕄 :=
  iprop(Transfers.MayWaits (thr d i) (default : HIx 1) O ∗ (fLoc d ↦{q} (X : Buf (Elt F) (fLoc d))) ∗ (cLoc d ↦{q'} (C : Buf (Elt F) (cLoc d)))
    ∗ (∃ f : Buf (Elt F) ((wV).view.loc (thr d i)), (wV).view.loc (thr d i) ↦{fullShare} f)
    ∗ (∃ f : Buf (Elt F) ((zV).view.loc (thr d i)), (zV).view.loc (thr d i) ↦{fullShare} f)
    ∗ (∃ f : Buf (Elt F) (oLoc d), oLoc d ↦[rows i]{fullShare} f) ∗ ownSems0 (thr d i) ∗ Ow d i O W)

/-- What the tile keeps beside its writing state. -/
def Keep (d : Dev nD) (i : grid0.Coords) (q' : PosShare TreeShare) (C : S16.Idx → BitVec 32) : sProp 𝕄 :=
  iprop((cLoc d ↦{q'} (C : Buf (Elt F) (cLoc d))) ∗ (∃ f : Buf (Elt F) ((wV).view.loc (thr d i)), (wV).view.loc (thr d i) ↦{fullShare} f))

/-- Clearing the scratch and reading the boundary words. -/
theorem part7_wp (d : Dev nD) (i : grid0.Coords) (q q' : PosShare TreeShare) (X : S8192x512.Idx → F .f32) (C : S16.Idx → BitVec 32)
    (O : CellTallies nD τ sig (HIx 1)) (W : Waits sig (HIx 1)) :
    Pre d i q q' X C O W ⊢ wp frame (wpE (defs₀ (F := F)) 𝒱₀ (thr d i) none) Set.univ (call (k0_part7 (F := F) i))
      fun r => iprop(⌜r = ⟨widW i, segW (widW i), baseW (widW i), k0_pay19 (F := F) C, k0_pay20 (F := F) C⟩⌝ ∗ R d i q X (wds C) O W 0 ∗ Keep d i q' C) := by
  rw [call, k0_part7_eq_skeleton]
  simp only [k0_part7_skel, Prog.lift, Prog.bind_op, Prog.bind_ret, Prog.pure_eq_ret]
  rw [wp_bind]
  unfold Pre
  iintro ⟨#Hmw, HX, HC, ⟨%fw, HW⟩, ⟨%fz, HZ⟩, ⟨%fo, Ho⟩, Hsem, HO⟩
  iapply (Scf.wp_for _ _ _ _ _ _ _ _ _ (fun t _ => Z d i t 0) (t1_wp d i))
  isplitl [HZ]
  · unfold Z
    iexists _; isplitr
    swap; · iexact HZ
    ipureintro; intro x hx; omega
  have ht : Scf.trips k0_t1_loop.lb k0_t1_loop.ub k0_t1_loop.st = 32 := by decide +kernel
  rw [ht]
  iintro %acc HZ
  iapply (wp_copy d i O W (src := cV) (dst := wV) (A := iprop((fLoc d ↦{q} (X : Buf (Elt F) (fLoc d))) ∗ (oLoc d ↦[rows i]{fullShare} fo) ∗ Z d i 32 0))
    q' (C : Buf (Elt F) (cLoc d)) (Sd := (Finset.univ : Finset S16.Idx)) (fd := fw) rfl (by decide) (Finset.subset_univ _) ?_) $$ [HX HZ HC HW Ho Hsem HO]
  · iintro ⟨#Hmw, HC, HW, Hsem, HO, HX, Ho, HZ⟩
    iapply (wp_load (m := wV) 𝒱₀ (thr d i) none Set.univ (Finset.subset_univ _)) $$ HW
    iintro HW
    have e : (wV).view.readAt (Elt F) (Rect.unit (s := S16) ![0] S16.size inb_S16_S16_0).toLoadRect
        ((wV).view.write (Elt F) fw ((cV).view.read (Elt F) (C : Buf (Elt F) (cLoc d))) Finset.univ) = C :=
      (Memref.readAt_unit_zero (Elt F) cc0_scratch0 (by funext k; match k with | 0 => rfl) inb_S16_S16_0 _).trans (View.write_whole_univ _ _ _)
    rw [wp_ret]
    iapply fupd_intro
    isplitr
    · ipureintro
      rw [e]; rfl
    isplitr [HC HW]
    · unfold R St Z
      icases HZ with ⟨%f, %hf, HZ⟩
      have ef : f = zbuf := by
        funext x
        have h1 : (x 1).val < 512 := (x 1).isLt
        exact hf x (by omega)
      subst ef
      isplitr; · iexact Hmw
      isplitl [HX]; · iexact HX
      isplitl [HZ]; · iexact HZ
      isplitl [Ho]
      · iexists fo; isplitr
        · ipureintro; intro x hx hlt
          have := (mem_rows.1 hx).1
          omega
        iexact Ho
      isplitl [Hsem] <;> iassumption
    · unfold Keep
      isplitl [HC]; · iexact HC
      iexists _; iexact HW
  isplitr; · iexact Hmw
  isplitl [HC]; · iexact HC
  isplitl [HW]; · iexact HW
  isplitl [Hsem]; · iexact Hsem
  isplitl [HO]; · iexact HO
  isplitl [HX]; · iexact HX
  isplitl [Ho] <;> iassumption

end Cert.Proof.KernelIdeal
-- ==== Proof.IdealBody.lean ====
module

public import proofs.«01_k».proof.Proof.IdealFill

@[expose] public section

set_option maxRecDepth 16384

noncomputable section

/-! # The whole tile
The extraction of the boundary words as scalars, the last two chunks, and the tile's body from its start to the
point where all its rows are written. -/

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

attribute [local irreducible] Scalar.select Scalar.cmpi Scalar.addi Scalar.subi Scalar.muli Scalar.minsi Scalar.maxsi Scalar.extui segW baseW widW

/-- A piece that ends in a value with a known fact, followed by the rest. -/
theorem wp_seq {d : Dev nD} {i : grid0.Coords} {α β : Type} {m : Prog (TpuEff nD τ sig (Elt F) Λ₀ (thr d i).2) α} {k : α → Prog (TpuEff nD τ sig (Elt F) Λ₀ (thr d i).2) β}
    {P P' : sProp 𝕄} {φ : α → Prop} {Q : β → sProp 𝕄}
    (h : P ⊢ wp frame (wpE (defs₀ (F := F)) 𝒱₀ (thr d i) none) Set.univ m fun r => iprop(⌜φ r⌝ ∗ P')) (hk : ∀ r, φ r → (P' ⊢ wp frame (wpE (defs₀ (F := F)) 𝒱₀ (thr d i) none) Set.univ (k r) Q)) :
    P ⊢ wp frame (wpE (defs₀ (F := F)) 𝒱₀ (thr d i) none) Set.univ (m >>= k) Q := by
  rw [wp_bind]
  refine BIBase.Entails.trans h (wp_mono _ _ _ fun r => ?_)
  iintro ⟨%hr, HP⟩
  iapply (hk r hr) $$ HP

/-- The extracted words and the first five selects, in terms of the boundary words. -/
theorem words_eq (i : grid0.Coords) (w : Fin 9 → BitVec 32) (hc : k0_chk1 i (w 0) (w 1) (w 2) (w 3) (w 4) (w 5) (w 6) (w 7) (w 8)) (b : BitVec 32) {v34 v36 v38 v40 v42 v44 v46 v48 v50 : BitVec 32} {h : k0_chk1 i v34 v36 v38 v40 v42 v44 v46 v48 v50} (e0 : v34 = w 0) (e1 : v36 = w 1) (e2 : v38 = w 2) (e3 : v40 = w 3) (e4 : v42 = w 4) (e5 : v44 = w 5) (e6 : v46 = w 6) (e7 : v48 = w 7) (e8 : v50 = w 8) :
    (⟨v34, v36, v38, v40, v42, v44, v46, v48, v50, h, Scalar.select (Scalar.cmpi .eq b 4#32) v42 (Scalar.select (Scalar.cmpi .eq b 3#32) v40 (Scalar.select (Scalar.cmpi .eq b 2#32) v38
        (Scalar.select (Scalar.cmpi .eq b 1#32) v36 (Scalar.select (Scalar.cmpi .eq b 0#32) v34 0#32)))),
      Scalar.select (Scalar.cmpi .eq (Scalar.addi b 1#32) 4#32) v42 (Scalar.select (Scalar.cmpi .eq (Scalar.addi b 1#32) 3#32) v40 (Scalar.select (Scalar.cmpi .eq (Scalar.addi b 1#32) 2#32) v38
        (Scalar.select (Scalar.cmpi .eq (Scalar.addi b 1#32) 1#32) v36 (Scalar.select (Scalar.cmpi .eq (Scalar.addi b 1#32) 0#32) v34 0#32))))⟩ : (Σ' (v34 : BitVec 32) (v36 : BitVec 32) (v38 : BitVec 32) (v40 : BitVec 32) (v42 : BitVec 32) (v44 : BitVec 32) (v46 : BitVec 32) (v48 : BitVec 32) (v50 : BitVec 32) (k0_hw1 : k0_chk1 i v34 v36 v38 v40 v42 v44 v46 v48 v50) (v72 : BitVec 32), BitVec 32))
      = ⟨w 0, w 1, w 2, w 3, w 4, w 5, w 6, w 7, w 8, hc, v72W b w, v72W (Scalar.addi b 1#32) w⟩ := by
  subst e0 e1 e2 e3 e4 e5 e6 e7 e8
  rfl

/-- Extracting the nine boundary words; the kernel's bounds check passes. -/
theorem part8_wp (d : Dev nD) (i : grid0.Coords) (C : S16.Idx → BitVec 32) (hw : Rng (wds C)) (P : sProp 𝕄) :
    P ⊢ wp frame (wpE (defs₀ (F := F)) 𝒱₀ (thr d i) none) Set.univ (call (k0_part8 (F := F) i) (segW (widW i)) (k0_pay19 (F := F) C) (k0_pay20 (F := F) C))
      fun r => iprop(⌜r = ⟨wds C 0, wds C 1, wds C 2, wds C 3, wds C 4, wds C 5, wds C 6, wds C 7, wds C 8, chk1_ok i hw,
        v72W (segW (widW i)) (wds C), v72W (Scalar.addi (segW (widW i)) 1#32) (wds C)⟩⌝ ∗ P) := by
  have e19 : k0_pay19 (F := F) C = C := shapeCast_self _ _
  have e20 : extractAt ![0] (k0_pay20 (F := F) C) inpos_S1_p0 = wds C 0 := by
    unfold k0_pay20; rw [e19]; exact congrArg C (funext fun | 0 => rfl)
  have e1 : extractAt ![0] (k0_pay21 C) inpos_S1_p0 = wds C 1 := congrArg C (funext fun | 0 => rfl)
  have e2 : extractAt ![0] (k0_pay22 C) inpos_S1_p0 = wds C 2 := congrArg C (funext fun | 0 => rfl)
  have e3 : extractAt ![0] (k0_pay23 C) inpos_S1_p0 = wds C 3 := congrArg C (funext fun | 0 => rfl)
  have e4 : extractAt ![0] (k0_pay24 C) inpos_S1_p0 = wds C 4 := congrArg C (funext fun | 0 => rfl)
  have e5 : extractAt ![0] (k0_pay25 C) inpos_S1_p0 = wds C 5 := congrArg C (funext fun | 0 => rfl)
  have e6 : extractAt ![0] (k0_pay26 C) inpos_S1_p0 = wds C 6 := congrArg C (funext fun | 0 => rfl)
  have e7 : extractAt ![0] (k0_pay27 C) inpos_S1_p0 = wds C 7 := congrArg C (funext fun | 0 => rfl)
  have e8 : extractAt ![0] (k0_pay28 C) inpos_S1_p0 = wds C 8 := congrArg C (funext fun | 0 => rfl)
  rw [call, k0_part8_eq_skeleton]
  unfold k0_part8_skel
  rw [e19]
  simp only [Prog.lift, Prog.bind_op, Prog.bind_ret, Prog.pure_eq_ret]
  refine BIBase.Entails.trans ?_ (wp_assume 𝒱₀ (thr d i) none Set.univ (by rw [e20, e1, e2, e3, e4, e5, e6, e7, e8]; exact chk1_ok i hw))
  rw [wp_ret]
  refine BIBase.Entails.trans ?_ fupd_intro
  iintro HP
  isplitr
  · ipureintro; exact words_eq i (wds C) (chk1_ok i hw) (segW (widW i)) e20 e1 e2 e3 e4 e5 e6 e7 e8
  iexact HP

/-- The tile's body: from its start to all its rows written. -/
theorem body_wp (d : Dev nD) (i : grid0.Coords) (q q' : PosShare TreeShare) (X : S8192x512.Idx → F .f32) (C : S16.Idx → BitVec 32)
    (O : CellTallies nD τ sig (HIx 1)) (W : Waits sig (HIx 1)) (hw : Rng (wds C)) :
    Pre d i q q' X C O W ⊢ wp frame (wpE (defs₀ (F := F)) 𝒱₀ (thr d i) none) Set.univ (call (cc0__body (F := F) i))
      fun _ => iprop(R d i q X (wds C) O W 512 ∗ Keep d i q' C) := by
  rw [call, cc0__body_eq_skeleton]
  unfold cc0__body_skel
  refine wp_seq (part7_wp d i q q' X C O W) fun r hr => ?_
  subst hr
  refine BIBase.Entails.trans (sep_mono ?_ .rfl) (wp_frame_r _ _ _)
  refine wp_seq (part8_wp d i C hw (R d i q X (wds C) O W 0)) fun r hr => ?_
  subst hr
  generalize wds C = w at *
  refine wp_seq (part9_wp d i q X w O W hw (chk1_ok i hw)) fun r hr => ?_
  obtain ⟨v92, v99, v102, v104, v106, v111⟩ := r
  obtain ⟨h92, h99, h102, h111⟩ := hr
  replace h99 : v99 = lenW i w := h99
  replace h102 : v102 = cntW i w 0#32 := h102
  replace h111 : v111 = Scalar.extui (Scalar.cmpi .eq (cntW i w 0#32) 0#32) := h111
  clear h92
  rw [h99, h102, h111]
  refine wp_seq (part10_wp d i q X w O W hw (chk1_ok i hw) v92 v104 v106) fun r hr => ?_
  obtain ⟨v138, v140, v142, c128⟩ := r
  replace hr : v138 = cntW i w 256#32 := hr
  simp (config := {zeta := false}) only []
  rw [hr]
  have hc1 := chk1_ok i hw
  clear h99 h102 h111 hr
  extract_lets -underBinder -merge jp6
  have hjp6 : R d i q X w O W (p1 i w 256) ⊢ wp frame (wpE (defs₀ (F := F)) 𝒱₀ (thr d i) none) Set.univ (jp6 ⟨⟩) (fun _ => R d i q X w O W 512) := by
    simp (config := {zeta := false}) only [jp6]
    clear jp6
    extract_lets -underBinder -merge v146 v147 v148 jp5
    have hjp5 : R d i q X w O W (p2 i w 256) ⊢ wp frame (wpE (defs₀ (F := F)) 𝒱₀ (thr d i) none) Set.univ (jp5 ⟨⟩) (fun _ => R d i q X w O W 512) := by
      simp (config := {zeta := false}) only [jp5]
      clear jp5
      extract_lets -underBinder -merge jp4
      have hjp4 : R d i q X w O W (384) ⊢ wp frame (wpE (defs₀ (F := F)) 𝒱₀ (thr d i) none) Set.univ (jp4 ⟨⟩) (fun _ => R d i q X w O W 512) := by
        simp (config := {zeta := false}) only [jp4]
        clear jp4
        extract_lets -underBinder -merge v154 v155 v156 v159 v160 jp3
        have hjp3 : R d i q X w O W (p1 i w 384) ⊢ wp frame (wpE (defs₀ (F := F)) 𝒱₀ (thr d i) none) Set.univ (jp3 ⟨⟩) (fun _ => R d i q X w O W 512) := by
          simp (config := {zeta := false}) only [jp3]
          clear jp3
          extract_lets -underBinder -merge v164 v165 v166 jp2
          have hjp2 : R d i q X w O W (p2 i w 384) ⊢ wp frame (wpE (defs₀ (F := F)) 𝒱₀ (thr d i) none) Set.univ (jp2 ⟨⟩) (fun _ => R d i q X w O W 512) := by
            simp (config := {zeta := false}) only [jp2]
            clear jp2
            extract_lets -underBinder -merge jp1
            have hjp1 : R d i q X w O W (512) ⊢ wp frame (wpE (defs₀ (F := F)) 𝒱₀ (thr d i) none) Set.univ (jp1 ⟨⟩) (fun _ => R d i q X w O W 512) := by
              simp (config := {zeta := false}) only [jp1]
              clear jp1
              simp only [Prog.pure_eq_ret]
              rw [wp_ret]
              exact fupd_intro
            clear_value jp1
            rcases Classical.em (0 < cnt i w 384 ∧ cnt i w 384 < 128) with h | h
            · have h3 := (cond18_iff i hw).2 h
              rw [dif_pos h3, wp_bind]
              refine BIBase.Entails.trans (R_of_eq d i q X w O W (p2_part i w h)) ?_
              refine BIBase.Entails.trans ?_ (Scf.wp_for _ _ _ _ _ _ _ _ _ (fun t _ => R d i q X w O W (384 + t)) (t5_wp d i q X w O W hw hc1 h3))
              have ht : Scf.trips k0_t5_loop.lb k0_t5_loop.ub k0_t5_loop.st = 128 := by decide +kernel
              rw [ht]
              iintro HR
              isplitl [HR]; · iexact HR
              iintro %acc HR
              iapply hjp1 $$ HR
            · rw [dif_neg (fun e => h ((cond18_iff i hw).1 e))]
              exact BIBase.Entails.trans (R_of_eq d i q X w O W (p2_done i w h)) hjp1
          clear_value jp2
          have hzi : v166 = 1#1 ↔ cnt i w 384 = 0 := zero_iff i hw (k := 384) (by omega)
          rcases Classical.em (cnt i w 384 = 0) with h | h
          · rw [if_pos (hzi.2 h), wp_bind]
            refine BIBase.Entails.trans (R_of_eq d i q X w O W (p1_zero i w h)) ?_
            replace hjp2 := BIBase.Entails.trans (R_of_eq d i q X w O W (p2_zero i w h).symm) hjp2
            have hz := cnt_zero i w h
            refine BIBase.Entails.trans (part6_wp d i q X w O W v160 hz) (wp_mono _ _ _ fun _ => ?_)
            simp only [Prog.lift, Prog.bind_op, Prog.bind_ret]
            refine wp_zeros d i q X w O W (a := 464) rfl (off_a i (k0_off37_eq i 5) (by simp [wid]; omega)) (by omega) (by omega) ?_
            refine wp_zeros d i q X w O W (a := 480) rfl (off_a i (k0_off37_eq i 6) (by simp [wid]; omega)) (by omega) (by omega) ?_
            refine wp_zeros d i q X w O W (a := 496) rfl (off_a i (k0_off37_eq i 7) (by simp [wid]; omega)) (by omega) (by omega) ?_
            exact hjp2
          · rw [if_neg (fun e => h (hzi.1 e))]
            exact BIBase.Entails.trans (R_of_eq d i q X w O W (p2_skip i w h).symm) hjp2
        clear_value jp3
        rcases Classical.em (cnt i w 384 = 128) with h | h
        · rw [dif_pos ((cond16_iff i hw).2 h)]
          simp only [Prog.lift, Prog.bind_op, Prog.bind_ret]
          exact wp_full d i q X w O W rfl hw (off_a i (k0_off35_eq i) (by simp [wid]; omega)) (off36_eq i hw) (by omega) h hjp3
        · rw [dif_neg (fun e => h ((cond16_iff i hw).1 e))]
          exact BIBase.Entails.trans (R_of_eq d i q X w O W (p1_skip i w h).symm) hjp3
      clear_value jp4
      rcases Classical.em (0 < cnt i w 256 ∧ cnt i w 256 < 128) with h | h
      · have h3 := (cond13_iff i hw).2 h
        rw [dif_pos h3, wp_bind]
        refine BIBase.Entails.trans (R_of_eq d i q X w O W (p2_part i w h)) ?_
        refine BIBase.Entails.trans ?_ (Scf.wp_for _ _ _ _ _ _ _ _ _ (fun t _ => R d i q X w O W (256 + t)) (t4_wp d i q X w O W hw hc1 h3))
        have ht : Scf.trips k0_t4_loop.lb k0_t4_loop.ub k0_t4_loop.st = 128 := by decide +kernel
        rw [ht]
        iintro HR
        isplitl [HR]; · iexact HR
        iintro %acc HR
        iapply hjp4 $$ HR
      · rw [dif_neg (fun e => h ((cond13_iff i hw).1 e))]
        exact BIBase.Entails.trans (R_of_eq d i q X w O W (p2_done i w h)) hjp4
    clear_value jp5
    have hzi : v148 = 1#1 ↔ cnt i w 256 = 0 := zero_iff i hw (k := 256) (by omega)
    rcases Classical.em (cnt i w 256 = 0) with h | h
    · rw [if_pos (hzi.2 h), wp_bind]
      refine BIBase.Entails.trans (R_of_eq d i q X w O W (p1_zero i w h)) ?_
      replace hjp5 := BIBase.Entails.trans (R_of_eq d i q X w O W (p2_zero i w h).symm) hjp5
      have hz := cnt_zero i w h
      refine BIBase.Entails.trans (part5_wp d i q X w O W v142 hz) (wp_mono _ _ _ fun _ => ?_)
      simp only [Prog.lift, Prog.bind_op, Prog.bind_ret]
      refine wp_zeros d i q X w O W (a := 336) rfl (off_a i (k0_off31_eq i 5) (by simp [wid]; omega)) (by omega) (by omega) ?_
      refine wp_zeros d i q X w O W (a := 352) rfl (off_a i (k0_off31_eq i 6) (by simp [wid]; omega)) (by omega) (by omega) ?_
      refine wp_zeros d i q X w O W (a := 368) rfl (off_a i (k0_off31_eq i 7) (by simp [wid]; omega)) (by omega) (by omega) ?_
      exact hjp5
    · rw [if_neg (fun e => h (hzi.1 e))]
      exact BIBase.Entails.trans (R_of_eq d i q X w O W (p2_skip i w h).symm) hjp5
  clear_value jp6
  rcases Classical.em (cnt i w 256 = 128) with h | h
  · rw [dif_pos ((cond11_iff i hw).2 h)]
    simp only [Prog.lift, Prog.bind_op, Prog.bind_ret]
    exact wp_full d i q X w O W rfl hw (off_a i (k0_off29_eq i) (by simp [wid]; omega)) (off30_eq i hw) (by omega) h hjp6
  · rw [dif_neg (fun e => h ((cond11_iff i hw).1 e))]
    exact BIBase.Entails.trans (R_of_eq d i q X w O W (p1_skip i w h).symm) hjp6

end Cert.Proof.KernelIdeal
-- ==== Proof.IdealLaunch.lean ====
module

public import proofs.«01_k».proof.Proof.IdealBody
public import Idealize.ShloMosaic.Lib.ShareLeaves

@[expose] public section

set_option maxRecDepth 16384

noncomputable section

/-! # The launch
What the handshakes carry to and from the thirty-two tiles, the tiles' obligation, the host's operations around the
call, and the run of the whole program. -/

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves
open Idealize.ShloMosaic.StableHlo (held wp_hlo_within)

variable {F : FTy → Type}

local notation "𝕄" => MT nD τ sig (HIx 1) (Elt F) ℕ UU ℕ

variable [FloatOps F]

/-- The call runs on two cores. -/
theorem nCore_zero : (K (F := F)).nCore 0 = 2 := rfl
/-- Each core has sixteen tiles. -/
theorem nSub_zero : (K (F := F)).nSub 0 = 16 := rfl

omit [FloatOps F] in
/-- The facts of the program's calls that hold by inspection. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable (m : (ℓ : Loc nD τ sig) → Buf (Elt F) ℓ) (ρ : Dev nD → PrngReg)

/-! ## The host's operations -/

/-- The host's array of the tokens. -/
abbrev f' : DevRef τ sig := Proc.devRef .tc (main_arg0 : Ref sig .tc)
/-- The host's array of the boundaries. -/
abbrev b' : DevRef τ sig := Proc.devRef .tc (main_arg1 : Ref sig .tc)
/-- The host's array of the zero to fill with. -/
abbrev k0' : DevRef τ sig := Proc.devRef .tc (main_c : Ref sig .tc)
/-- The host's array of the sixteen zeros. -/
abbrev p0' : DevRef τ sig := Proc.devRef .tc (main_v0 : Ref sig .tc)
/-- The host's array of the place to write at. -/
abbrev k1' : DevRef τ sig := Proc.devRef .tc (main_c_0 : Ref sig .tc)
/-- The host's array of that place as a vector. -/
abbrev p1' : DevRef τ sig := Proc.devRef .tc (main_v1 : Ref sig .tc)
/-- The host's array of the sixteen words. -/
abbrev c' : DevRef τ sig := Proc.devRef .tc (main_v2 : Ref sig .tc)
/-- The host's array of the kernel's rows. -/
abbrev o' : DevRef τ sig := Proc.devRef .tc (main_v3 : Ref sig .tc)
/-- The host's array of the result. -/
abbrev r' : DevRef τ sig := Proc.devRef .tc (main_v4 : Ref sig .tc)

/-- The host's operation 0: a zero. -/
abbrev op0 : HloOp τ sig (Elt F) := StableHlo.nullary main_c (constantI S_ 32 0#32)
/-- The host's operation 1: sixteen zeros. -/
abbrev op1 : HloOp τ sig (Elt F) :=
  StableHlo.unary main_c main_v0 (broadcastInDim S16 ![] bcast_S_S16 : (⟨S_, .i32⟩ : BufTy).Contents (Elt F) → (⟨S16, .i32⟩ : BufTy).Contents (Elt F))
/-- The host's operation 2: a zero, as a place. -/
abbrev op2 : HloOp τ sig (Elt F) := StableHlo.nullary main_c_0 (constantI S_ 32 0#32)
/-- The host's operation 3: that place as a vector. -/
abbrev op3 : HloOp τ sig (Elt F) :=
  StableHlo.unary main_c_0 main_v1 (broadcastInDim S1 ![] bcast_S_S1 : (⟨S_, .i32⟩ : BufTy).Contents (Elt F) → (⟨S1, .i32⟩ : BufTy).Contents (Elt F))
/-- The host's operation 4: the boundaries into the sixteen zeros. -/
abbrev op4 : HloOp τ sig (Elt F) :=
  StableHlo.ternary main_v0 main_v1 main_arg1 main_v2 ((fun x i u => Host.scatter scatter_S16_S1_S9_0_n_0_0 (fun _ b => b) x i u) :
    (⟨S16, .i32⟩ : BufTy).Contents (Elt F) → (⟨S1, .i32⟩ : BufTy).Contents (Elt F) → (⟨S9, .i32⟩ : BufTy).Contents (Elt F) → (⟨S16, .i32⟩ : BufTy).Contents (Elt F))
/-- The host's operation 5: the reshape of the kernel's rows. -/
abbrev op5 : HloOp τ sig (Elt F) := StableHlo.reshape main_v3 main_v4 (rfl : (.f32 : EltTy) = .f32) shapeCasts_S16384x512_S8x2048x512

/-- The nine arrays of the host. -/
abbrev S9' : Finset (DevRef τ sig) := {f', b', k0', p0', k1', p1', c', o', r'}

/-- An array of the host, whole. -/
abbrev ptF (d : Dev nD) (b : Ref sig .tc) (f : Buf (Elt F) ((SparseCore.T d : Thread nD τ).loc b)) : sProp 𝕄 := (SparseCore.T d).loc b ↦{fullShare} f

omit [FloatOps F] in
/-- The nine arrays held are the nine held one by one. -/
theorem held_S9 (d : Dev nD) (V : Valuation τ sig (Elt F)) :
    (held (T d) S9' V : sProp 𝕄) = iprop(ptF d main_arg0 (V f') ∗ ptF d main_arg1 (V b') ∗ ptF d main_c (V k0') ∗ ptF d main_v0 (V p0')
      ∗ ptF d main_c_0 (V k1') ∗ ptF d main_v1 (V p1') ∗ ptF d main_v2 (V c') ∗ ptF d main_v3 (V o') ∗ ptF d main_v4 (V r')) := by
  unfold held S9'
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

/-- The launch's contents, and those the call finds. -/
def V0 (d : Dev nD) : Valuation τ sig (Elt F) := fun b => m (d, b)
/-- What the arrays hold before the call. -/
def V5 (d : Dev nD) : Valuation τ sig (Elt F) :=
  (op4 (F := F)).result ((op3 (F := F)).result ((op2 (F := F)).result ((op1 (F := F)).result ((op0 (F := F)).result (V0 m d)))))

omit [FloatOps F] in
/-- The launch hands over the nine arrays. -/
theorem unscoped_held (d : Dev nD) : (unscopedBufs d (fun b => m ((SparseCore.T d).loc b)) : sProp 𝕄) = held (T d) S9' (V0 m d) := by
  rw [held_S9]
  unfold unscopedBufs
  rw [show (Finset.univ.filter fun b : Ref sig .tc => ¬ b.isScoped) = {main_arg0, main_arg1, main_c, main_v0, main_c_0, main_v1, main_v2, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]
  rfl

/-- The launch's token rows and boundary words, and the words padded to sixteen. -/
abbrev Xv (d : Dev nD) : S8192x512.Idx → F .f32 := m (fLoc d)
/-- The boundaries at launch. -/
abbrev Uv (d : Dev nD) : S9.Idx → BitVec 32 := m ((SparseCore.T d).loc main_arg1)
/-- The sixteen words: the boundaries, then zeros. -/
def Cv (U : S9.Idx → BitVec 32) : S16.Idx → BitVec 32 :=
  Host.scatter scatter_S16_S1_S9_0_n_0_0 (fun _ b => b) (broadcastInDim S16 ![] bcast_S_S16 (constantI S_ 32 0#32)) (broadcastInDim S1 ![] bcast_S_S1 (constantI S_ 32 0#32)) U

omit [FloatOps F] in
/-- Before the call the tokens are as at launch. -/
theorem V5_f (d : Dev nD) : V5 m d f' = m (fLoc d) := by
  unfold V5
  rw [StableHlo.ternary_result_ne _ _ _ _ _ _ _ _ _ _ (by decide), StableHlo.unary_result_ne _ _ _ _ _ _ (by decide), StableHlo.nullary_result_ne _ _ _ _ (by decide),
    StableHlo.unary_result_ne _ _ _ _ _ _ (by decide), StableHlo.nullary_result_ne _ _ _ _ (by decide)]
  rfl

omit [FloatOps F] in
/-- Before the call the boundaries are as at launch. -/
theorem V5_b (d : Dev nD) : V5 m d b' = m ((SparseCore.T d).loc main_arg1) := by
  unfold V5
  rw [StableHlo.ternary_result_ne _ _ _ _ _ _ _ _ _ _ (by decide), StableHlo.unary_result_ne _ _ _ _ _ _ (by decide), StableHlo.nullary_result_ne _ _ _ _ (by decide),
    StableHlo.unary_result_ne _ _ _ _ _ _ (by decide), StableHlo.nullary_result_ne _ _ _ _ (by decide)]
  rfl

omit [FloatOps F] in
/-- Before the call the sixteen words are made. -/
theorem V5_c (d : Dev nD) : V5 m d c' = Cv (Uv m d) := by
  unfold V5
  rw [StableHlo.ternary_result]
  rw [StableHlo.unary_result_ne _ _ _ _ _ _ (by decide), StableHlo.nullary_result_ne _ _ _ _ (by decide), StableHlo.unary_result, StableHlo.nullary_result,
    StableHlo.unary_result, StableHlo.nullary_result,
    StableHlo.unary_result_ne _ _ _ _ _ _ (by decide), StableHlo.nullary_result_ne _ _ _ _ (by decide), StableHlo.unary_result_ne _ _ _ _ _ _ (by decide), StableHlo.nullary_result_ne _ _ _ _ (by decide)]
  rfl

/-- What the call leaves in its result: the token rows, placed. -/
def Gv (d : Dev nD) : S16384x512.Idx → F .f32 := G (Xv m d) (wds (Cv (Uv m d)))

/-- What the arrays hold after the call. -/
def V6 (d : Dev nD) : Valuation τ sig (Elt F) := Function.update (V5 m d) o' (Gv m d : Buf (Elt F) (oLoc d))

/-- The program's result. -/
def Rv (d : Dev nD) : S8x2048x512.Idx → F .f32 := fun x => shapeCast S8x2048x512 (Gv m d) shapeCasts_S16384x512_S8x2048x512 x

/-- The call changes no array but the kernel's rows. -/
theorem V6_ne (d : Dev nD) {b : DevRef τ sig} (h : b ≠ o') : V6 m d b = V5 m d b := Function.update_of_ne h _ _
/-- The call leaves the table of the kernel's rows. -/
theorem V6_o (d : Dev nD) : V6 m d o' = Gv m d := Function.update_self _ _ _

/-- The reshape leaves the program's result. -/
theorem V7_r (d : Dev nD) : (op5 (F := F)).result (V6 m d) r' = Rv m d := by
  rw [StableHlo.reshape_result, V6_o]; rfl
/-- The reshape changes no other array. -/
theorem V7_ne (d : Dev nD) {r : Ref sig .tc} (h : r ≠ main_v4) : (op5 (F := F)).result (V6 m d) (Proc.devRef .tc r) = V6 m d (Proc.devRef .tc r) :=
  StableHlo.reshape_result_ne (h := h) ..

/-! ## What the handshakes carry -/

/-- The tile at core `c`, subcore `s`. -/
def tile (c : Fin (grid0.bound 0)) (s : Fin (grid0.bound 1)) : grid0.Coords :=
  fun | 0 => c | 1 => s | ⟨_ + 2, h⟩ => absurd h (Nat.not_lt.2 (Nat.le_add_left _ _))

/-- A tile's share of what all tiles read. -/
abbrev shr (i : grid0.Coords) : PosShare TreeShare := leaf 5 fullShare ⟨wid i, wid_lt i⟩

/-- What a tile is given, and what it gives back. -/
abbrev inP (d : Dev nD) (i : grid0.Coords) : sProp 𝕄 :=
  iprop((fLoc d ↦{shr i} (Xv m d : Buf (Elt F) (fLoc d))) ∗ (cLoc d ↦{shr i} (Cv (Uv m d) : Buf (Elt F) (cLoc d))) ∗ ∃ f : Buf (Elt F) (oLoc d), oLoc d ↦[rows i]{fullShare} f)
/-- What a tile hands back: its read shares and its block, filled. -/
abbrev outP (d : Dev nD) (i : grid0.Coords) : sProp 𝕄 :=
  iprop((fLoc d ↦{shr i} (Xv m d : Buf (Elt F) (fLoc d))) ∗ (cLoc d ↦{shr i} (Cv (Uv m d) : Buf (Elt F) (cLoc d))) ∗ oLoc d ↦[rows i]{fullShare} (Gv m d : Buf (Elt F) (oLoc d)))

/-- The call takes every tile's part, already dealt, and brings them back. -/
def P : (K (F := F)).Pay (nD := nD) (Val := Elt F) (Name := ℕ) (U := UU) where
  st := fun q d c => match q with | 0 => bigSep Finset.univ fun s : Fin (grid0.bound 1) => inP m d (tile c s)
  dn := fun q d c => match q with | 0 => bigSep Finset.univ fun s : Fin (grid0.bound 1) => outP m d (tile c s)
  go := fun q d c s => match q with | 0 => inP m d (tile c s)
  td := fun q d c s => match q with | 0 => outP m d (tile c s)
  x := fun _ _ => iprop(emp)

/-- What the handshakes carry may be stored. -/
instance P_storable : (P (F := F) m).IsStorable where
  st q d c := match q with
    | 0 => (inferInstance : BI.Storable (upEmb : UEmb _ 𝕄) (bigSep Finset.univ fun s : Fin (grid0.bound 1) => inP m d (tile c s)))
  dn q d c := match q with
    | 0 => (inferInstance : BI.Storable (upEmb : UEmb _ 𝕄) (bigSep Finset.univ fun s : Fin (grid0.bound 1) => outP m d (tile c s)))
  go q d c s := match q with
    | 0 => (inferInstance : BI.Storable (upEmb : UEmb _ 𝕄) (inP m d (tile c s)))
  td q d c s := match q with
    | 0 => (inferInstance : BI.Storable (upEmb : UEmb _ 𝕄) (outP m d (tile c s)))

/-- Every boundary word lies between 0 and the number of tokens. -/
def PreOK : Prop := ∀ d : Dev nD, Rng (wds (Cv (Uv m d)))

/-! ## The tile -/

omit [FloatOps F] in
/-- The two scratch buffers are among the subcore's own. -/
theorem ownBufs_V (d : Dev nD) (i : grid0.Coords) :
    (ownBufs (thr d i) : sProp 𝕄)
      = iprop((∃ f, (thr d i).loc cc0_scratch0 ↦{fullShare} f) ∗ (∃ f, (thr d i).loc cc0_scratch1 ↦{fullShare} f)
          ∗ bigSep (((ownRefs (τ := τ) (thr d i).2).erase ((thr d i).2.devRef cc0_scratch0)).erase ((thr d i).2.devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := (thr d i).2) (b := (thr d i).2.devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := (thr d i).2) (b := (thr d i).2.devRef cc0_scratch1) rfl⟩)]

/-- The tile's task: from its part to its rows written. -/
theorem tile_body (hF : (K (F := F)).Facts) (hpre : PreOK m) (d : Dev nD) (i : grid0.Coords)
    (O : CellTallies nD τ sig (HIx 1)) (W : Waits sig (HIx 1)) (hO : ∀ g, O g none = 0) :
    iprop(levAts (K (F := F)).L (K (F := F)).lev ∗ emp ∗ inP m d i ∗ scopedBufs (thr d i) ∗ scopedSems0 (thr d i) ∗ owes (thr d i) O W)
      ⊢ wp frame (wpE (defs₀ (F := F)) 𝒱₀ (thr d i) none) Set.univ (call (cc0__body (F := F) i))
          fun _ => iprop(outP m d i ∗ scopedBufs (thr d i) ∗ scopedSems0 (thr d i) ∗ ∃ W', ⌜∀ p ∈ W', p ∈ W ∨ p.2 = none⌝ ∗ owes (thr d i) O W') := by
  rw [(K (F := F)).scopedBufs_V hF d ((i 0).castLE hcore0) ((i 1).castLE hsub0), SparseCore.Cfg.scopedSems0_V (Val := Elt F) d ((i 0).castLE hcore0) ((i 1).castLE hsub0), ownBufs_V]
  iintro ⟨#Hlv, -, ⟨Hx, Hc, Ho⟩, ⟨HW, HZ, Hbufs⟩, Hsem, HO⟩
  ihave Hmw := (show levAts (K (F := F)).L (K (F := F)).lev ⊢ Transfers.MayWaits (thr d i) (default : HIx 1) O from
    (K (F := F)).mayWaits_none (thr := thr d i) hO) $$ Hlv
  iapply (BIBase.Entails.trans (sep_mono (body_wp d i (shr i) (shr i) (Xv m d) (Cv (Uv m d)) O W (hpre d)) .rfl) (BIBase.Entails.trans (wp_frame_r _ _ _) (wp_mono _ _ _ fun _ => ?_)))
    $$ [Hmw Hx Hc Ho HW HZ Hbufs Hsem HO]
  · unfold R St Keep Ow
    iintro ⟨⟨⟨-, Hx, HZ, ⟨%f, %hf, Ho⟩, Hsem, HO⟩, Hc, HW⟩, Hbufs⟩
    isplitl [Hx Hc Ho]
    · isplitl [Hx]; · iexact Hx
      isplitl [Hc]; · iexact Hc
      iapply (Entails.of_eq (pointsTo_congr (q := fullShare) (g := (Gv m d : Buf (Elt F) (oLoc d))) fun x hx => hf x hx (mem_rows.1 hx).2)) $$ Ho
    isplitl [HW HZ Hbufs]
    · isplitl [HW]; · iexact HW
      isplitl [HZ]; · iexists _; iexact HZ
      iexact Hbufs
    isplitl [Hsem] <;> iassumption
  · isplitr [Hbufs]
    · unfold Pre Ow
      isplitl [Hmw]; · iexact Hmw
      isplitl [Hx]; · iexact Hx
      isplitl [Hc]; · iexact Hc
      isplitl [HW]; · iexact HW
      isplitl [HZ]; · iexact HZ
      isplitl [Ho]; · iexact Ho
      isplitl [Hsem]; · iexact Hsem
      iexists W; isplitr
      · ipureintro; exact fun p hp => .inl hp
      iexact HO
    iexact Hbufs

/-! ## The obligation -/

/-- The call's function on a tile is the kernel's body. -/
theorem defs₀_vector (c : Fin τ.nSC) (s : Fin τ.nSub) :
    defs₀ (F := F) (.scVector c s) 0 () = SparseCore.onTile hcore0 hsub0 (fun c s => call (cc0__body (F := F) (tile c s))) ⟨⟩ c s := rfl

omit [FloatOps F] in
/-- A tile's end, its waits allowed as the call asks. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Each tile, given its part, does its work and hands it back. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m hF hpre d (tile ⟨_, hci.1⟩ ⟨_, hci.2⟩) O W hO).trans (wp_mono frame _ _ fun _ => obl_post)

/-- A core's part is its tiles' parts. -/
theorem vecSplit : (K (F := F)).VecSplit' (P m) 0 := by
  intro d c
  show (bigSep Finset.univ fun s : Fin (grid0.bound 1) => inP m d (tile c s)) ⊢ |={Set.univ}=> iprop(
      (bigSep Finset.univ fun s : Fin (grid0.bound 1) => inP m d (tile c s))
      ∗ ((bigSep Finset.univ fun s : Fin (grid0.bound 1) => outP m d (tile c s)) -∗ bigSep Finset.univ fun s : Fin (grid0.bound 1) => outP m d (tile c s)))
  iintro H; imodintro
  isplitl [H]; · iexact H
  iintro H; iexact H

/-! ## The tiles' parts, split and joined -/

/-- The tile with number `n`. -/
def tileOf (n : Fin (2 ^ 5)) : grid0.Coords :=
  tile ⟨n.val % 2, Nat.mod_lt _ (by decide)⟩ ⟨n.val / 2, by show n.val / 2 < 16; have h : n.val < 32 := n.isLt; omega⟩

omit [FloatOps F] in
/-- The tiles are numbered in order. -/
theorem wid_tileOf (n : Fin (2 ^ 5)) : wid (tileOf n) = n.val := by
  show 2 * (n.val / 2) + n.val % 2 = n.val; omega

/-- The tiles by number and by core and subcore. -/
def tilesEquiv : Fin (grid0.bound 0) × Fin (grid0.bound 1) ≃ Fin (2 ^ 5) where
  toFun x := ⟨2 * x.2.val + x.1.val, by have h1 : x.1.val < 2 := x.1.isLt; have h2 : x.2.val < 16 := x.2.isLt; show _ < 32; omega⟩
  invFun n := (⟨n.val % 2, Nat.mod_lt _ (by decide)⟩, ⟨n.val / 2, by show n.val / 2 < 16; have h : n.val < 32 := n.isLt; omega⟩)
  left_inv x := by
    have h1 : x.1.val < 2 := x.1.isLt
    exact Prod.ext (Fin.ext (by show (2 * x.2.val + x.1.val) % 2 = x.1.val; omega)) (Fin.ext (by show (2 * x.2.val + x.1.val) / 2 = x.2.val; omega))
  right_inv n := Fin.ext (by show 2 * (n.val / 2) + n.val % 2 = n.val; omega)

omit [FloatOps F] in
/-- Over cores and tiles, or over the 32 numbers, is the same. -/
theorem bigSep_tiles (Φ : grid0.Coords → sProp 𝕄) :
    (bigSep Finset.univ fun c : Fin (grid0.bound 0) => bigSep Finset.univ fun s : Fin (grid0.bound 1) => Φ (tile c s))
      = bigSep Finset.univ fun n : Fin (2 ^ 5) => Φ (tileOf n) := by
  rw [bigSep_univ_equiv tilesEquiv, bigSep_univ_prod]
  refine bigSep_congr fun c _ => bigSep_congr fun s _ => congrArg Φ ?_
  have e := tilesEquiv.left_inv (c, s)
  exact (congrArg (fun x : Fin (grid0.bound 0) × Fin (grid0.bound 1) => tile x.1 x.2) e).symm

omit [FloatOps F] in
/-- The blocks of two tiles have no row in common. -/
theorem rows_disjoint : ∀ a ∈ (Finset.univ : Finset (Fin (2 ^ 5))), ∀ b ∈ (Finset.univ : Finset (Fin (2 ^ 5))), a ≠ b →
    Disjoint (rows (tileOf a)) (rows (tileOf b)) := by
  intro a _ b _ h
  refine Finset.disjoint_left.2 fun x ha hb => h (Fin.ext ?_)
  have h1 := mem_rows.1 ha
  have h2 := mem_rows.1 hb
  rw [wid_tileOf] at h1 h2
  omega

omit [FloatOps F] in
/-- The tiles' blocks are all the rows. -/
theorem rows_cover : (Finset.univ : Finset (Fin (2 ^ 5))).biUnion (fun n => rows (tileOf n)) = Finset.univ := by
  refine Finset.eq_univ_of_forall fun x => ?_
  have h : (x 0).val < 16384 := (x 0).isLt
  refine Finset.mem_biUnion.2 ⟨⟨(x 0).val / 512, by show _ < 32; omega⟩, Finset.mem_univ _, mem_rows.2 ?_⟩
  rw [wid_tileOf]
  show 512 * ((x 0).val / 512) ≤ (x 0).val ∧ (x 0).val < 512 * ((x 0).val / 512) + 512
  omega

omit [FloatOps F] in
/-- A whole array is the 32 tiles' read shares of it. -/
theorem shares (ℓ : Loc nD τ sig) (f : Buf (Elt F) ℓ) : (ℓ ↦{fullShare} f : sProp 𝕄) = bigSep Finset.univ fun n : Fin (2 ^ 5) => ℓ ↦{shr (tileOf n)} f := by
  refine (pointsTo_leaves Finset.univ f 5 fullShare).trans (bigSep_congr fun n _ => ?_)
  have e : (⟨wid (tileOf n), wid_lt (tileOf n)⟩ : Fin (2 ^ 5)) = n := Fin.ext (wid_tileOf n)
  show _ = (ℓ ↦{leaf 5 fullShare ⟨wid (tileOf n), wid_lt (tileOf n)⟩} f : sProp 𝕄)
  rw [e]

omit [FloatOps F] in
/-- The kernel's rows are the 32 tiles' blocks. -/
theorem blocks (d : Dev nD) (f : Buf (Elt F) (oLoc d)) :
    (oLoc d ↦{fullShare} f : sProp 𝕄) = bigSep Finset.univ fun n : Fin (2 ^ 5) => oLoc d ↦[rows (tileOf n)]{fullShare} f := by
  rw [← pointsTo_biUnion Finset.univ (ℓ := oLoc d) (fun n => rows (tileOf n)) rows_disjoint, rows_cover]; try rfl

omit [FloatOps F] in
/-- Blocks of known contents are blocks of some contents. -/
theorem some_blocks (d : Dev nD) (f : Buf (Elt F) (oLoc d)) :
    (bigSep Finset.univ fun n : Fin (2 ^ 5) => oLoc d ↦[rows (tileOf n)]{fullShare} f : sProp 𝕄)
      ⊢ bigSep Finset.univ fun n : Fin (2 ^ 5) => iprop(∃ f : Buf (Elt F) (oLoc d), oLoc d ↦[rows (tileOf n)]{fullShare} f) := by
  refine bigSep_mono fun n _ => ?_
  show (oLoc d ↦[rows (tileOf n)]{fullShare} f : sProp 𝕄) ⊢ iprop(∃ f : Buf (Elt F) (oLoc d), oLoc d ↦[rows (tileOf n)]{fullShare} f)
  iintro H
  iexists f; iexact H

/-- The parts dealt from the whole arrays. -/
theorem st0_intro (d : Dev nD) (f : Buf (Elt F) (oLoc d)) :
    iprop((fLoc d ↦{fullShare} (Xv m d : Buf (Elt F) (fLoc d))) ∗ (cLoc d ↦{fullShare} (Cv (Uv m d) : Buf (Elt F) (cLoc d))) ∗ oLoc d ↦{fullShare} f)
      ⊢ bigSep Finset.univ fun c : Fin ((K (F := F)).nCore 0) => (P m).st 0 d c := by
  refine BIBase.Entails.trans ?_ (Entails.of_eq (bigSep_tiles (fun i => inP m d i)).symm)
  rw [shares (fLoc d), shares (cLoc d), blocks, bigSep_sep', bigSep_sep']
  iintro ⟨HX, HC, HO⟩
  isplitl [HX]; · iexact HX
  isplitl [HC]; · iexact HC
  iapply (some_blocks d f) $$ HO

/-- The parts joined to the whole arrays. -/
theorem dn0_eq (d : Dev nD) :
    (bigSep Finset.univ fun c : Fin ((K (F := F)).nCore 0) => (P m).dn 0 d c)
      = iprop((fLoc d ↦{fullShare} (Xv m d : Buf (Elt F) (fLoc d))) ∗ (cLoc d ↦{fullShare} (Cv (Uv m d) : Buf (Elt F) (cLoc d)))
        ∗ oLoc d ↦{fullShare} (Gv m d : Buf (Elt F) (oLoc d))) := by
  refine (bigSep_tiles (fun i => outP m d i)).trans ?_
  rw [bigSep_sep', bigSep_sep', ← shares, ← shares, ← blocks]

/-! ## The launch element -/

/-- The ghost state at launch. -/
def u₀ : UU := (initOf (K (F := F)).hsCells (K (F := F)).hsToks, 1)

omit [FloatOps F] in
/-- Nothing, any number of times, is nothing. -/
theorem bigSep_emp' {I : Type} (s : Finset I) : (bigSep s fun _ => iprop(emp)) = (iprop(emp) : sProp 𝕄) := bigSep_emp_const s

/-- The ghost state at launch is the handshakes'. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The host program -/

/-- Operation 0 touches the nine arrays only. -/
theorem h0 : (op0 (F := F)).bufs ⊆ S9' := show ({k0'} : Finset (DevRef τ sig)) ⊆ S9' by decide
/-- Operation 1 touches the nine arrays only. -/
theorem h1 : (op1 (F := F)).bufs ⊆ S9' := show ({k0', p0'} : Finset (DevRef τ sig)) ⊆ S9' by decide
/-- Operation 2 touches the nine arrays only. -/
theorem h2 : (op2 (F := F)).bufs ⊆ S9' := show ({k1'} : Finset (DevRef τ sig)) ⊆ S9' by decide
/-- Operation 3 touches the nine arrays only. -/
theorem h3 : (op3 (F := F)).bufs ⊆ S9' := show ({k1', p1'} : Finset (DevRef τ sig)) ⊆ S9' by decide
/-- Operation 4 touches the nine arrays only. -/
theorem h4 : (op4 (F := F)).bufs ⊆ S9' := show ({p0', p1', b', c'} : Finset (DevRef τ sig)) ⊆ S9' by decide
/-- Operation 5 touches the nine arrays only. -/
theorem h5 : (op5 (F := F)).bufs ⊆ S9' := show ({o', r'} : Finset (DevRef τ sig)) ⊆ S9' by decide

/-- The program's result. -/
abbrev rLoc (d : Dev nD) : Loc nD τ sig := (SparseCore.T d).loc main_v4
/-- The boundaries. -/
abbrev bLoc (d : Dev nD) : Loc nD τ sig := (SparseCore.T d).loc main_arg1

/-- What the program leaves: its arguments and its result. -/
abbrev FIN (d : Dev nD) : sProp 𝕄 :=
  iprop((fLoc d ↦{fullShare} m (fLoc d)) ∗ (bLoc d ↦{fullShare} m (bLoc d)) ∗ rLoc d ↦{fullShare} (Rv m d : Buf (Elt F) (rLoc d)))

/-- The host's program: it makes the sixteen words, runs the call, reshapes its rows, and holds what it leaves. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := op0) (S := S9') h0 (V := V0 m d)) $$ [Hb Hheld]
  · isplitl [Hb] <;> iassumption
  iintro ⟨Hb, Hheld⟩
  rw [wp_ret]; imodintro
  iapply (wp_hlo_within 𝒱 (SparseCore.T d) none Set.univ (op := op1) (S := S9') h1 (V := (op0 (F := F)).result (V0 m d))) $$ [Hb Hheld]
  · isplitl [Hb] <;> iassumption
  iintro ⟨Hb, Hheld⟩
  rw [wp_ret]; imodintro
  iapply (wp_hlo_within 𝒱 (SparseCore.T d) none Set.univ (op := op2) (S := S9') h2 (V := (op1 (F := F)).result ((op0 (F := F)).result (V0 m d)))) $$ [Hb Hheld]
  · isplitl [Hb] <;> iassumption
  iintro ⟨Hb, Hheld⟩
  rw [wp_ret]; imodintro
  iapply (wp_hlo_within 𝒱 (SparseCore.T d) none Set.univ (op := op3) (S := S9') h3 (V := (op2 (F := F)).result ((op1 (F := F)).result ((op0 (F := F)).result (V0 m d))))) $$ [Hb Hheld]
  · isplitl [Hb] <;> iassumption
  iintro ⟨Hb, Hheld⟩
  rw [wp_ret]; imodintro
  iapply (wp_hlo_within 𝒱 (SparseCore.T d) none Set.univ (op := op4) (S := S9') h4
    (V := (op3 (F := F)).result ((op2 (F := F)).result ((op1 (F := F)).result ((op0 (F := F)).result (V0 m d)))))) $$ [Hb Hheld]
  · isplitl [Hb] <;> iassumption
  iintro ⟨Hb, Hheld⟩
  rw [wp_ret]; imodintro
  ihave Hh := (Entails.of_eq ((show (held (T d) S9' ((op4 (F := F)).result ((op3 (F := F)).result ((op2 (F := F)).result ((op1 (F := F)).result ((op0 (F := F)).result (V0 m d)))))) : sProp 𝕄)
    = held (T d) S9' (V5 m d) from rfl).trans (held_S9 d (V5 m d)))) $$ Hheld
  rw [V5_f, V5_c]
  icases Hh with ⟨Hf, Hu, Hk0, Hp0, Hk1, Hp1, Hc, Ho, Hr⟩
  iapply ((K (F := F)).wp_run (D (F := F)) 𝒱 (EH := EH) (P := P m) κ d 0) $$ [Hst Hf Hu Hk0 Hp0 Hk1 Hp1 Hc Ho Hr Hb Hts]
  isplitr; · iexact Hctx
  isplitl [Hst]; · iexact Hst
  isplitl [Hf Hc Ho]
  · iapply (st0_intro m d (V5 m d o')) $$ [Hf Hc Ho]
    isplitl [Hf]; · iexact Hf
    isplitl [Hc] <;> iassumption
  iintro ⟨Hst, Hdn⟩
  ihave Hdn' := (Entails.of_eq (dn0_eq m d)) $$ Hdn
  icases Hdn' with ⟨Hf, Hc, Ho⟩
  iapply (wp_hlo_within 𝒱 (SparseCore.T d) none Set.univ (op := op5) (S := S9') h5 (V := V6 m d)) $$ [Hb Hf Hu Hk0 Hp0 Hk1 Hp1 Hc Ho Hr]
  · isplitl [Hb]; · iexact Hb
    rw [held_S9, V6_o, V6_ne m d (b := f') (by decide), V6_ne m d (b := b') (by decide), V6_ne m d (b := k0') (by decide), V6_ne m d (b := p0') (by decide),
      V6_ne m d (b := k1') (by decide), V6_ne m d (b := p1') (by decide), V6_ne m d (b := c') (by decide), V6_ne m d (b := r') (by decide), V5_f, V5_c]
    isplitl [Hf]; · iexact Hf
    isplitl [Hu]; · iexact Hu
    isplitl [Hk0]; · iexact Hk0
    isplitl [Hp0]; · iexact Hp0
    isplitl [Hk1]; · iexact Hk1
    isplitl [Hp1]; · iexact Hp1
    isplitl [Hc]; · iexact Hc
    isplitl [Ho] <;> iassumption
  iintro ⟨Hb, Hheld⟩
  ihave Hh := (Entails.of_eq (held_S9 d ((op5 (F := F)).result (V6 m d)))) $$ Hheld
  rw [V7_r, V7_ne m d (r := main_arg0) (by decide), V7_ne m d (r := main_arg1) (by decide), V6_ne m d (b := f') (by decide), V6_ne m d (b := b') (by decide), V5_f, V5_b]
  icases Hh with ⟨Hf, Hu, -, -, -, -, -, -, Hr⟩
  rw [wp_ret]; imodintro; imodintro
  isplitl [Hst]; · iexact Hst
  isplitr [Hb Hts]
  · isplitl [Hf]; · iexact Hf
    isplitl [Hu] <;> iassumption
  isplitl [Hb] <;> iassumption

/-! ## The run -/

/-- What the final memory holds on one device. -/
def fq (d : Dev nD) (s' : Phys nD τ sig (Elt F)) : Prop :=
  s'.mem.mem (fLoc d) = m (fLoc d) ∧ s'.mem.mem (bLoc d) = m (bLoc d) ∧ s'.mem.mem (rLoc d) = Rv m d

/-- What the host's program holds at the end, the memory holds. -/
theorem hfin (d : Dev nD) (s' : Phys nD τ sig (Elt F)) : iprop(FIN m d ∗ SI s') ⊢ (⌜fq m d s'⌝ : sProp 𝕄) := by
  iintro ⟨⟨Hf, Hu, Hr⟩, HSI⟩
  ihave H := (persistent_entails_right (SI_pointsTo_agree (st := s') (ℓ := fLoc d) (I := Finset.univ) (q := fullShare) (f := m (fLoc d)))) $$ [HSI Hf]
  · isplitl [HSI] <;> iassumption
  icases H with ⟨%hx, HSI, -⟩
  ihave H := (persistent_entails_right (SI_pointsTo_agree (st := s') (ℓ := bLoc d) (I := Finset.univ) (q := fullShare) (f := m (bLoc d)))) $$ [HSI Hu]
  · isplitl [HSI] <;> iassumption
  icases H with ⟨%hu, HSI, -⟩
  ihave H := (SI_pointsTo_agree (st := s') (ℓ := rLoc d) (I := Finset.univ) (q := fullShare) (f := (Rv m d : Buf (Elt F) (rLoc d)))) $$ [HSI Hr]
  · isplitl [HSI] <;> iassumption
  icases H with %hr
  ipureintro; exact ⟨funext fun i => hx i (Finset.mem_univ i), funext fun i => hu i (Finset.mem_univ i), funext fun i => hr i (Finset.mem_univ i)⟩

/-- What every final state satisfies: the arguments as at launch, the result, and every counter at zero. -/
def QC : PUnit × MemSt nD τ sig (Elt F) → Prop := fun r =>
  (∀ c : Dev nD, r.2.mem (fLoc c) = m (fLoc c) ∧ r.2.mem (bLoc c) = m (bLoc c) ∧ r.2.mem (rLoc c) = Rv m c) ∧ r.2.sem = fun _ => 0

/-- The program's run: arguments unchanged, the result in place, every semaphore at zero. -/
theorem run_main [∀ e, Nonempty (Elt F e)] (hpre : PreOK m) : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.KernelIdeal
-- ==== Proof.IdealFrame.lean ====
module

public import proofs.«01_k».proof.Proof.IdealLaunch
public import Idealize.ShloMosaic.Lib.Routing.OpsSet
public import proofs.«01_k».proof.Proof.Gen.Pre_cu_in_range
public import proofs.«01_k».proof.Pre_cu_in_range

@[expose] public section

set_option maxRecDepth 16384

noncomputable section

/-! # The boundary words
The padded words are the argument's, and the precondition bounds them; then the frame. -/

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Routing Idealize.ShloMosaic.ValueIdx
open Idealize.ShloMosaic.WordCmp
open Idealize.ShloMosaic.StableHlo (held wp_hlo_within)

variable {F : FTy → Type}

local notation "𝕄" => MT nD τ sig (HIx 1) (Elt F) ℕ UU ℕ

variable [FloatOps F]

/-- A boundary's place in the sixteen words is its own number. -/
theorem lands9 (k : S9.Idx) (x : S16.Idx) :
    (scatter_S16_S1_S9_0_n_0_0).resultIdx? k (broadcastInDim S1 ![] bcast_S_S1 (constantI S_ 32 0#32)) = some x ↔ (k 0).val = (x 0).val := by
  have hs : (scatter_S16_S1_S9_0_n_0_0).start k (broadcastInDim S1 ![] bcast_S_S1 (constantI S_ 32 0#32)) 0 = 0 := rfl
  have hw : (scatter_S16_S1_S9_0_n_0_0).window k 0 = (k 0).val := rfl
  rw [resultIdx?_eq_some]
  constructor
  · intro h
    have h0 := h 0
    rw [hs, hw] at h0; omega
  · intro h a
    match a with
    | ⟨0, _⟩ => rw [show (⟨0, _⟩ : Fin S16.rank) = 0 from rfl, hs, hw]; omega

/-- The padded words at a boundary. -/
theorem wds_Cv (U : S9.Idx → BitVec 32) (j : Fin 9) : wds (Cv U) j = U (ix1 j) := by
  unfold wds Cv
  refine scatter_set_hit _ _ _ _ _ _ (fun k hk => ?_) (ix1 j) ((lands9 _ _).2 rfl)
  have h := (lands9 _ _).1 hk
  exact congrArg U ((eq_ix1 k).trans (congrArg ix1 (Fin.ext h)))

/-- The words are in range when the argument's are. -/
theorem rng_of {U : S9.Idx → BitVec 32} (h : ∀ j, (U j).toNat ≤ 8192) : Rng (wds (Cv U)) := fun j => by
  rw [wds_Cv]; exact h _

/-- Both bits of a conjunction. -/
theorem both {a b : BitVec 1} (h : IntOp.andi a b = 1#1) : a = 1#1 ∧ b = 1#1 := by
  revert h; revert a b; decide

/-- A signed comparison's bit. -/
theorem sle_bit {x y : BitVec 32} (h : IntOp.cmpi .sle x y = 1#1) : x.toInt ≤ y.toInt := by
  have h' : BitVec.ofBool (x.sle y) = 1#1 := h
  rw [ofBool_eq_one_iff] at h'
  exact BitVec.sle_iff_toInt_le.1 h'

/-- A word between two small ones, signed, read as a natural. -/
theorem toNat_of_toInt {x : BitVec 32} (h0 : 0 ≤ x.toInt) : (x.toNat : Int) = x.toInt := by
  have := x.isLt
  rw [BitVec.toInt_eq_toNat_cond] at h0 ⊢
  split at h0 <;> split <;> omega

/-- The precondition, read at a word. -/
theorem word_range {x : BitVec 32} (h : IntOp.andi (IntOp.cmpi .sge x 0#32) (IntOp.cmpi .sle x 8192#32) = 1#1) : x.toNat ≤ 8192 := by
  have h0 : (0#32 : BitVec 32).toInt ≤ x.toInt := sle_bit (both h).1
  have h1 : x.toInt ≤ (8192#32 : BitVec 32).toInt := sle_bit (both h).2
  have e0 : (0#32 : BitVec 32).toInt = 0 := by decide
  have e1 : (8192#32 : BitVec 32).toInt = 8192 := by decide
  have := toNat_of_toInt (x := x) (by omega)
  omega

/-- The precondition puts the boundary words in range on every device. -/
theorem preOK_of (m : (ℓ : Loc nD τ sig) → Buf (Elt F) ℓ)
    (h : ∀ c : Dev nD, Cert.Pre_cu_in_range.fn (F := F) (m ((c.tc : Thread nD τ).loc main_arg0)) (m ((c.tc : Thread nD τ).loc main_arg1)) = fun _ => 1#1) :
    PreOK m := fun d => rng_of fun j => word_range (congrFun (h d) j)

/-- The program's run under the precondition, with its arguments alone. -/
theorem frame_run [∀ e, Nonempty (Elt F e)] (m : (ℓ : Loc nD τ sig) → Buf (Elt F) ℓ) (ρ : Dev nD → PrngReg) (hpre : PreOK m) :
    θ_run (Cert.KernelIdeal.defs (F := F)) (Cert.KernelIdeal.threads (F := F)) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run _ _ _).mono (fun _ h => ⟨fun c => ⟨(h.1 c).1, (h.1 c).2.1⟩, h.2⟩) (run_main m ρ hpre)

end Cert.Proof.KernelIdeal
-- ==== Proof.Ref.lean ====
module

public import proofs.«01_k».proof.Proof.IdealFrame
public import proofs.«01_k».proof.Proof.Gen.ReferenceIdeal
public import proofs.«01_k».proof.Proof.Gen.ReferenceIdeal.Run
public import Idealize.ShloMosaic.Lib.Routing.OpsSet
public import Idealize.ShloMosaic.Lib.Routing.Count
public import Idealize.ShloMosaic.Lib.Pointwise.SelectCore

@[expose] public section

set_option maxRecDepth 16384

noncomputable section

/-! # The reference's value
For boundaries that start at 0 and never decrease, token `t` has the last boundary at or before it as its row and
the distance to that boundary as its position, so the dense array holds at (b, s) the row `cu b + s` of the tokens
while `s` is below the row's length, and 0 after it. -/

namespace Cert.Proof.Reference

open Cert.ReferenceIdeal Cert.ReferenceIdeal.Gen Idealize.ShloMosaic Idealize.ShloMosaic.TcCoe Idealize.SL.Sem
open Idealize.ShloMosaic.Routing Idealize.ShloMosaic.ValueIdx

variable {F : FTy → Type} [FloatOps F]

/-! ## The composed term, in parts -/

/-- How many boundaries lie at or before each token. -/
def cntI (U : IVec S9 32) : IVec S8192 32 :=
  Host.reduce IntOp.addi (extui 32 (cmpi .sle (broadcastInDim S8192x9 ![0, 1] bcast_S1x9_S8192x9_0_1 (broadcastInDim S1x9 ![1] bcast_S9_S1x9_1 U))
    (broadcastInDim S8192x9 ![0, 1] bcast_S8192x1_S8192x9_0_1 (broadcastInDim S8192x1 ![0] bcast_S8192_S8192x1_0 (iotaInDim S8192 32 0)))) natLt_1_32)
    (constantI S_ 32 0#32) reducesTo_S8192x9_S8192_d1 h_S_

/-- Each token's row. -/
def segI (U : IVec S9 32) : IVec S8192 32 := subi (cntI U) (broadcastInDim S8192 ![] bcast_S_S8192 (constantI S_ 32 1#32))

/-- Negative indices wrapped by `n`. -/
def wrapI (n : BitVec 32) (x : IVec S8192 32) : IVec S8192 32 :=
  select (cmpi .slt x (broadcastInDim S8192 ![] bcast_S_S8192 (constantI S_ 32 0#32))) (addi x (broadcastInDim S8192 ![] bcast_S_S8192 (constantI S_ 32 n))) x

/-- A vector as a column. -/
def colI (x : IVec S8192 32) : IVec S8192x1 32 := broadcastInDim S8192x1 ![0] bcast_S8192_S8192x1_0 x

/-- Each token's position in its row. -/
def posI (U : IVec S9 32) : IVec S8192 32 :=
  subi (iotaInDim S8192 32 0) (Host.gather gather_S9_S8192x1_S8192_n_0_n_n_0_1_1 U (colI (wrapI 9#32 (segI U))))

/-- Each token's two indices. -/
def idxI (U : IVec S9 32) : IVec S8192x2 32 :=
  concatenate S8192x2 1 [⟨S8192x1, colI (wrapI 8#32 (segI U))⟩, ⟨S8192x1, colI (wrapI 2048#32 (posI U))⟩] concatenates_S8192x1_S8192x1_S8192x2_d1

/-- The reference's result, of its two arguments. -/
def denseI (X : S8192x512.Idx → F .f32) (U : IVec S9 32) : S8x2048x512.Idx → F .f32 :=
  Host.scatter scatter_S8x2048x512_S8192x2_S8192x512_1_01_01_1 (fun _ b => b)
    (broadcastInDim S8x2048x512 ![] bcast_S_S8x2048x512 (constant S_ .f32 0x00000000#32)) (idxI U) X

/-- The reference's result is the dense tensor of its two arguments. -/
theorem res_eq (m : (ℓ : Loc nD τ sig) → Buf (Elt F) ℓ) (c : Dev nD) :
    Cert.ReferenceIdeal.Value.res_main_v32 m c
      = denseI (F := F) (m ((c.tc : Thread nD τ).loc main_arg0)) (m ((c.tc : Thread nD τ).loc main_arg1)) := rfl

/-! ## The boundaries -/

/-- Boundary `j` as a natural number. -/
def u (U : IVec S9 32) (j : Nat) : Nat := (U (ValueIdx.ix1 (Fin.ofNat 9 j))).toNat

/-- The boundaries start at 0, never decrease and end within the tokens. -/
structure Rag (U : IVec S9 32) : Prop where
  zero : u U 0 = 0
  step : ∀ j, j < 8 → u U j ≤ u U (j + 1)
  last : u U 8 ≤ 8192

variable {U : IVec S9 32}

/-- The boundaries never decrease. -/
theorem u_mono (hU : Rag U) {a b : Nat} (h : a ≤ b) (hb : b ≤ 8) : u U a ≤ u U b := by
  induction b with
  | zero => obtain rfl : a = 0 := by omega
            exact le_rfl
  | succ b ih =>
    rcases Nat.lt_or_ge b a with h' | h'
    · obtain rfl : a = b + 1 := by omega
      exact le_rfl
    · exact (ih h' (by omega)).trans (hU.step b (by omega))

/-- A token's count of boundaries. -/
def cn (U : IVec S9 32) (t : Nat) : Nat := Nat.count (fun j => u U j ≤ t) 9

/-- At most nine boundaries lie at or before a token. -/
theorem cn_le (t : Nat) : cn U t ≤ 9 := Nat.count_le _

/-- A boundary lies at or before a token exactly when its number is less than the count. -/
theorem lt_cn (hU : Rag U) {t j : Nat} (hj : j < 9) : u U j ≤ t ↔ j < cn U t :=
  lt_count_iff (Q := fun j => u U j ≤ t) (fun _ _ h hb hq => (u_mono hU h (by omega)).trans hq) hj

/-- At least one boundary lies at or before each token. -/
theorem cn_pos (hU : Rag U) (t : Nat) : 0 < cn U t := (lt_cn hU (by omega)).1 (by rw [hU.zero]; exact Nat.zero_le t)

/-- A token's row starts at or before it. -/
theorem u_le (hU : Rag U) (t : Nat) : u U (cn U t - 1) ≤ t :=
  (lt_cn hU (by have := cn_le (U := U) t; have := cn_pos hU t; omega)).2 (by have := cn_pos hU t; omega)

/-- A token between boundaries `b` and `b + 1` has row `b`, and only such a token. -/
theorem cn_eq (hU : Rag U) {t b : Nat} (hb : b < 8) : cn U t - 1 = b ↔ u U b ≤ t ∧ t < u U (b + 1) := by
  have h0 := lt_cn hU (t := t) (j := b) (by omega)
  have h1 := lt_cn hU (t := t) (j := b + 1) (by omega)
  have := cn_pos hU t
  omega

/-! ## The words -/

/-- The reference's sum of comparisons is the count. -/
theorem count_at (hU : Rag U) (t : Fin 8192) : cntI U (ValueIdx.ix1 t) = BitVec.ofNat 32 (cn U t.val) := by
  unfold cntI
  refine reduce_count (by decide) _ natLt_1_32 reducesTo_S8192x9_S8192_d1 h_S_ t (fun j => u U j ≤ t.val) fun q => ?_
  have e1 := bcCols bcast_S9_S1x9_1 bcast_S1x9_S8192x9_0_1 U t q
  have e2 := bcRows bcast_S8192_S8192x1_0 bcast_S8192x1_S8192x9_0_1 (iotaInDim S8192 32 0) t q
  have hq : U (ValueIdx.ix1 q) = U (ValueIdx.ix1 (Fin.ofNat 9 q.val)) := congrArg (fun q => U (ValueIdx.ix1 q)) (Fin.ext (Nat.mod_eq_of_lt q.isLt).symm)
  have hl : u U q.val ≤ 8192 := (u_mono hU (b := 8) (by have := q.isLt; omega) le_rfl).trans hU.last
  show IntOp.cmpi .sle _ _ = 1#1 ↔ _
  rw [e1, e2]
  show BitVec.ofBool ((U (ValueIdx.ix1 q)).sle (BitVec.ofNat 32 t.val)) = 1#1 ↔ (U (ValueIdx.ix1 (Fin.ofNat 9 q.val))).toNat ≤ t.val
  unfold u at hl
  rw [hq, WordCmp.ofBool_eq_one_iff, BitVec.sle_iff_toInt_le, BitVec.toInt_eq_toNat_of_lt (by omega), BitVec.toInt_eq_toNat_of_lt]
  · rw [BitVec.toNat_ofNat, Nat.mod_eq_of_lt (by have := t.isLt; omega)]; omega
  · rw [BitVec.toNat_ofNat, Nat.mod_eq_of_lt (by have := t.isLt; omega)]; have := t.isLt; omega

/-- The difference of two words that hold numbers holds the numbers' difference. -/
theorem ofNat_sub {a b : Nat} (h : b ≤ a) (ha : a < 2 ^ 32) : BitVec.ofNat 32 a - BitVec.ofNat 32 b = BitVec.ofNat 32 (a - b) :=
  (BitVec.ofNat_sub_ofNat_of_le a b (by omega) h)

/-- A token's segment is the count less one. -/
theorem seg_at (hU : Rag U) (t : Fin 8192) : segI U (ValueIdx.ix1 t) = BitVec.ofNat 32 (cn U t.val - 1) := by
  show cntI U (ValueIdx.ix1 t) - BitVec.ofNat 32 1 = _
  rw [count_at hU, ofNat_sub (cn_pos hU t.val) (by have := cn_le (U := U) t.val; omega)]

/-- A word that is not negative is left by the wrapping of negative indices as it was. -/
theorem wrap_at {n : BitVec 32} {x : IVec S8192 32} {t : Fin 8192} {a : Nat} (h : x (ValueIdx.ix1 t) = BitVec.ofNat 32 a) (ha : a < 2 ^ 31) :
    wrapI n x (ValueIdx.ix1 t) = BitVec.ofNat 32 a := by
  refine Eq.trans ?_ h
  exact wrap_of_lt (x (ValueIdx.ix1 t)) (x (ValueIdx.ix1 t) + n) (by rw [h, BitVec.toNat_ofNat]; exact Nat.lt_of_le_of_lt (Nat.mod_le _ _) ha)

/-- A vector of words as a column. -/
theorem col_at (x : IVec S8192 32) (t : Fin 8192) : colI x (ValueIdx.ix2 t (0 : Fin 1)) = x (ValueIdx.ix1 t) := bcCol _ x t

/-- A token's position is its distance from its segment's start. -/
theorem pos_at (hU : Rag U) (t : Fin 8192) : posI U (ValueIdx.ix1 t) = BitVec.ofNat 32 (t.val - u U (cn U t.val - 1)) := by
  have hc := cn_le (U := U) t.val
  have hp := cn_pos hU t.val
  have e := gather_take1 gather_S9_S8192x1_S8192_n_0_n_n_0_1_1 rfl rfl rfl rfl U (colI (wrapI 9#32 (segI U))) t (Fin.ofNat 9 (cn U t.val - 1))
    (by rw [col_at, wrap_at (seg_at hU t) (by omega)]
        exact congrArg _ (Nat.mod_eq_of_lt (by omega : cn U t.val - 1 < 9)).symm) (by decide)
  show BitVec.ofNat 32 t.val - Host.gather gather_S9_S8192x1_S8192_n_0_n_n_0_1_1 U (colI (wrapI 9#32 (segI U))) (ValueIdx.ix1 t) = _
  rw [e, ← ofNat_sub (u_le hU t.val) (by have := t.isLt; omega)]
  unfold u
  rw [BitVec.ofNat_toNat, BitVec.setWidth_eq]

/-- The first column of two columns side by side. -/
theorem cat0 (x y : IVec S8192x1 32) (t : Fin 8192) :
    concatenate S8192x2 1 [⟨S8192x1, x⟩, ⟨S8192x1, y⟩] concatenates_S8192x1_S8192x1_S8192x2_d1 (ValueIdx.ix2 t (0 : Fin 2)) = x (ValueIdx.ix2 t (0 : Fin 1)) := by
  refine (concatenate_pair_apply _ _ _ _ _).trans ((dif_pos (show (0 : Nat) < 1 by omega)).trans ?_)
  refine congrArg x (funext fun a => ?_)
  match a with
  | ⟨0, _⟩ => rfl
  | ⟨1, _⟩ => rfl

/-- The second column of two columns side by side. -/
theorem cat1 (x y : IVec S8192x1 32) (t : Fin 8192) :
    concatenate S8192x2 1 [⟨S8192x1, x⟩, ⟨S8192x1, y⟩] concatenates_S8192x1_S8192x1_S8192x2_d1 (ValueIdx.ix2 t (1 : Fin 2)) = y (ValueIdx.ix2 t (0 : Fin 1)) := by
  refine (concatenate_pair_apply _ _ _ _ _).trans ((dif_neg (show ¬ (1 : Nat) < 1 by omega)).trans ?_)
  refine congrArg y (funext fun a => ?_)
  match a with
  | ⟨0, _⟩ => rfl
  | ⟨1, _⟩ => rfl

/-- A token's first index is its segment. -/
theorem idx_at0 (hU : Rag U) (t : Fin 8192) : idxI U (ValueIdx.ix2 t (0 : Fin 2)) = BitVec.ofNat 32 (cn U t.val - 1) := by
  have hc := cn_le (U := U) t.val
  rw [← wrap_at (n := 8#32) (seg_at hU t) (by omega), ← col_at (wrapI 8#32 (segI U))]
  exact cat0 _ _ t

/-- A token's second index is its position. -/
theorem idx_at1 (hU : Rag U) (t : Fin 8192) : idxI U (ValueIdx.ix2 t (1 : Fin 2)) = BitVec.ofNat 32 (t.val - u U (cn U t.val - 1)) := by
  rw [← wrap_at (n := 2048#32) (pos_at hU t) (by have := t.isLt; omega), ← col_at (wrapI 2048#32 (posI U))]
  exact cat1 _ _ t

/-! ## Where a token's row lands -/

/-- The scatter starts a token's row at its first index word, along the segments. -/
theorem start0 (idx : IVec S8192x2 32) (t : Fin 8192) (c : Fin 512) :
    (scatter_S8x2048x512_S8192x2_S8192x512_1_01_01_1).start (ValueIdx.ix2 t c) idx 0 = (idx (ValueIdx.ix2 t (0 : Fin 2))).toInt := by
  unfold ScatterDims.start
  rw [dif_pos (by decide)]
  refine congrArg (fun x => (idx x).toInt) (funext fun a => ?_)
  match a with
  | ⟨0, _⟩ => rfl
  | ⟨1, _⟩ => rfl

/-- The scatter starts a token's row at its second index word, along the positions. -/
theorem start1 (idx : IVec S8192x2 32) (t : Fin 8192) (c : Fin 512) :
    (scatter_S8x2048x512_S8192x2_S8192x512_1_01_01_1).start (ValueIdx.ix2 t c) idx 1 = (idx (ValueIdx.ix2 t (1 : Fin 2))).toInt := by
  unfold ScatterDims.start
  rw [dif_pos (by decide)]
  refine congrArg (fun x => (idx x).toInt) (funext fun a => ?_)
  match a with
  | ⟨0, _⟩ => rfl
  | ⟨1, _⟩ => rfl

/-- Where the scatter puts an entry of a token: at the token's segment and position, and in the entry's column. -/
theorem lands (hU : Rag U) (t : Fin 8192) (c : Fin 512) (b : Fin 8) (s : Fin 2048) (e : Fin 512) :
    (scatter_S8x2048x512_S8192x2_S8192x512_1_01_01_1).resultIdx? (ValueIdx.ix2 t c) (idxI U) = some (ValueIdx.ix3 b s e)
      ↔ cn U t.val - 1 = b.val ∧ t.val - u U (cn U t.val - 1) = s.val ∧ c = e := by
  have s0 : (scatter_S8x2048x512_S8192x2_S8192x512_1_01_01_1).start (ValueIdx.ix2 t c) (idxI U) 0 = (idxI U (ValueIdx.ix2 t (0 : Fin 2))).toInt := start0 _ t c
  have s1 : (scatter_S8x2048x512_S8192x2_S8192x512_1_01_01_1).start (ValueIdx.ix2 t c) (idxI U) 1 = (idxI U (ValueIdx.ix2 t (1 : Fin 2))).toInt := start1 _ t c
  have s2 : (scatter_S8x2048x512_S8192x2_S8192x512_1_01_01_1).start (ValueIdx.ix2 t c) (idxI U) 2 = 0 := rfl
  have w0 : (scatter_S8x2048x512_S8192x2_S8192x512_1_01_01_1).window (ValueIdx.ix2 t c) 0 = 0 := rfl
  have w1 : (scatter_S8x2048x512_S8192x2_S8192x512_1_01_01_1).window (ValueIdx.ix2 t c) 1 = 0 := rfl
  have w2 : (scatter_S8x2048x512_S8192x2_S8192x512_1_01_01_1).window (ValueIdx.ix2 t c) 2 = c.val := rfl
  have ht := t.isLt
  have hc := cn_le (U := U) t.val
  rw [idx_at0 hU, BitVec.toInt_ofNat', Int.bmod_eq_of_le (by omega) (by omega)] at s0
  rw [idx_at1 hU, BitVec.toInt_ofNat', Int.bmod_eq_of_le (by omega) (by omega)] at s1
  rw [resultIdx?_eq_some]
  constructor
  · intro h
    have h0 : _ = (b.val : Int) := h 0
    have h1 : _ = (s.val : Int) := h 1
    have h2 : _ = (e.val : Int) := h 2
    rw [s0, w0] at h0; rw [s1, w1] at h1; rw [s2, w2] at h2
    exact ⟨by omega, by omega, Fin.ext (by omega)⟩
  · rintro ⟨h0, h1, rfl⟩ a
    match a with
    | ⟨0, _⟩ => show _ = (b.val : Int); rw [show (⟨0, _⟩ : Fin S8x2048x512.rank) = 0 from rfl, s0, w0]; omega
    | ⟨1, _⟩ => show _ = (s.val : Int); rw [show (⟨1, _⟩ : Fin S8x2048x512.rank) = 1 from rfl, s1, w1]; omega
    | ⟨2, _⟩ => show _ = (c.val : Int); rw [show (⟨2, _⟩ : Fin S8x2048x512.rank) = 2 from rfl, s2, w2]; omega

/-- The reference's result at an entry of a row's tokens. -/
theorem dense_token (hU : Rag U) (X : S8192x512.Idx → F .f32) (b : Fin 8) (s : Fin 2048) (e : Fin 512) (h : s.val < u U (b.val + 1) - u U b.val)
    (t : Fin 8192) (ht : t.val = u U b.val + s.val) : denseI X U (ValueIdx.ix3 b s e) = X (ValueIdx.ix2 t e) := by
  have hb := b.isLt
  refine scatter_set_hit _ _ _ _ _ _ (fun k hk => ?_) (ValueIdx.ix2 t e) ((lands hU t e b s e).2 ?_)
  · rw [ValueIdx.eq_ix2 k] at hk ⊢
    obtain ⟨h0, h1, h2⟩ := (lands hU (k 0) (k 1) b s e).1 hk
    have hl := u_le hU (k 0).val
    rw [h0] at h1 hl
    have hk0 : (k 0 : Fin 8192) = t := Fin.ext (by omega)
    rw [show (k 1 : Fin 512) = e from h2, hk0]
    rfl
  · have hc : cn U t.val - 1 = b.val := (cn_eq hU hb).2 ⟨by omega, by omega⟩
    exact ⟨hc, by rw [hc]; omega, rfl⟩

/-- The reference's result past a row's tokens. -/
theorem dense_zero (hU : Rag U) (X : S8192x512.Idx → F .f32) (b : Fin 8) (s : Fin 2048) (e : Fin 512) (h : ¬ s.val < u U (b.val + 1) - u U b.val) :
    denseI X U (ValueIdx.ix3 b s e) = FloatOps.ofBits (F := F) .f32 0x00000000#32 := by
  have hb := b.isLt
  refine (scatter_set_miss _ _ _ _ _ fun k hk => ?_).trans rfl
  rw [ValueIdx.eq_ix2 k] at hk
  obtain ⟨h0, h1, h2⟩ := (lands hU (k 0) (k 1) b s e).1 hk
  have hl := (cn_eq hU hb).1 h0
  rw [h0] at h1
  omega

end Cert.Proof.Reference
-- ==== Proof.Value.lean ====
module

public import proofs.«01_k».proof.Proof.Ref
public import proofs.«01_k».proof.Proof.Gen.Pre_cu_is_ragged

@[expose] public section

set_option maxRecDepth 16384

noncomputable section

/-! # The two values
What the precondition says of the boundaries, and that the kernel's result is then the reference's. -/

namespace Cert.Proof.Value

open Cert.ReferenceIdeal Cert.ReferenceIdeal.Gen Idealize.ShloMosaic Idealize.ShloMosaic.TcCoe Idealize.SL.Sem
open Idealize.ShloMosaic.Routing
open Cert.Proof.Reference Cert.Proof.KernelIdeal

variable {F : FTy → Type} [FloatOps F] {U : IVec S9 32}

/-! ## The precondition -/

/-- A word below another at every boundary, and the last of them at most the number of tokens, from the words' signed order. -/
theorem rag_of_int (h0 : (U (ValueIdx.ix1 (0 : Fin 9))).toInt = 0) (hs : ∀ j : Fin 8, (U (ValueIdx.ix1 j.castSucc)).toInt ≤ (U (ValueIdx.ix1 j.succ)).toInt)
    (hl : ∀ j : Fin 8, (U (ValueIdx.ix1 j.succ)).toInt ≤ 8192) : Rag U := by
  have hn : ∀ n (h : n < 9), 0 ≤ (U (ValueIdx.ix1 (⟨n, h⟩ : Fin 9))).toInt := by
    intro n
    induction n with
    | zero => intro _; exact h0.ge
    | succ n ih => intro h; exact (ih (by omega)).trans (hs ⟨n, by omega⟩)
  have hu : ∀ n (h : n < 9), (u U n : Int) = (U (ValueIdx.ix1 (⟨n, h⟩ : Fin 9))).toInt := by
    intro n h
    have e : (Fin.ofNat 9 n) = (⟨n, h⟩ : Fin 9) := Fin.ext (Nat.mod_eq_of_lt h)
    unfold u
    rw [e]
    exact toNat_of_toInt (hn n h)
  refine ⟨?_, fun j hj => ?_, ?_⟩
  · have e := hu 0 (by omega)
    have : (U (ValueIdx.ix1 (⟨0, by omega⟩ : Fin 9))).toInt = 0 := h0
    omega
  · have e0 := hu j (by omega)
    have e1 := hu (j + 1) (by omega)
    have h : (U (ValueIdx.ix1 (⟨j, by omega⟩ : Fin 9))).toInt ≤ (U (ValueIdx.ix1 (⟨j + 1, by omega⟩ : Fin 9))).toInt := hs ⟨j, hj⟩
    omega
  · have e := hu 8 (by omega)
    have h : (U (ValueIdx.ix1 (⟨8, by omega⟩ : Fin 9))).toInt ≤ 8192 := hl 7
    omega

/-- The precondition makes the boundaries ragged. -/
theorem rag_of {X : S8192x512.Idx → F .f32} (h : Cert.Pre_cu_is_ragged.fn (F := F) X U = fun _ => 1#1) : Rag U := by
  have hj : ∀ j : Fin 8, IntOp.andi (IntOp.andi (IntOp.cmpi .eq (U (ValueIdx.ix1 (0 : Fin 9))) 0#32)
      (IntOp.cmpi .sle (U (ValueIdx.ix1 j.castSucc)) (U (ValueIdx.ix1 j.succ)))) (IntOp.cmpi .sle (U (ValueIdx.ix1 j.succ)) 8192#32) = 1#1 := by
    intro j
    have e0 : extractStridedSlice Cert.Pre_cu_is_ragged.S8 ![0] U Cert.Pre_cu_is_ragged.Gen.slices_S9_S8_0 (ValueIdx.ix1 j) = U (ValueIdx.ix1 j.castSucc) :=
      congrArg U (funext fun | ⟨0, _⟩ => Fin.ext (by show 0 + j.val = j.val; omega))
    have e1 : extractStridedSlice Cert.Pre_cu_is_ragged.S8 ![1] U Cert.Pre_cu_is_ragged.Gen.slices_S9_S8_1 (ValueIdx.ix1 j) = U (ValueIdx.ix1 j.succ) :=
      congrArg U (funext fun | ⟨0, _⟩ => Fin.ext (by show 1 + j.val = j.val + 1; omega))
    have ez : ∀ x : Cert.Pre_cu_is_ragged.S_.Idx, shapeCast Cert.Pre_cu_is_ragged.S_ (extractStridedSlice Cert.Pre_cu_is_ragged.S1 ![0] U Cert.Pre_cu_is_ragged.Gen.slices_S9_S1_0) Cert.Pre_cu_is_ragged.Gen.shapeCasts_S1_S_ x = U (ValueIdx.ix1 (0 : Fin 9)) := by
      intro x
      unfold shapeCast
      exact congrArg U (funext fun | ⟨0, _⟩ => Fin.ext (by
        have hy : ((Shape.reshapeEquiv Cert.Pre_cu_is_ragged.Gen.shapeCasts_S1_S_) x (⟨0, by decide⟩ : Fin Cert.Pre_cu_is_ragged.S1.rank)).val < 1 := Fin.isLt _
        show 0 + ((Shape.reshapeEquiv Cert.Pre_cu_is_ragged.Gen.shapeCasts_S1_S_) x (⟨0, by decide⟩ : Fin Cert.Pre_cu_is_ragged.S1.rank)).val = 0
        omega))
    rw [← e0, ← e1, ← ez (fun i => i.elim0)]
    exact congrFun h (ValueIdx.ix1 j)
  refine rag_of_int ?_ (fun j => ?_) (fun j => ?_)
  · have e : BitVec.ofBool (U (ValueIdx.ix1 (0 : Fin 9)) == 0#32) = 1#1 := (both (both (hj 0)).1).1
    rw [WordCmp.ofBool_eq_one_iff, beq_iff_eq] at e
    rw [e]; decide
  · exact sle_bit (both (both (hj j)).1).2
  · exact sle_bit (both (hj j)).2

/-- Ragged boundaries are in range. -/
theorem rag_range (hU : Rag U) (j : S9.Idx) : (U j).toNat ≤ 8192 := by
  have hj : (j 0).val < 9 := (j 0).isLt
  have e : j = ValueIdx.ix1 (Fin.ofNat 9 (j 0).val) := (ValueIdx.eq_ix1 j).trans (congrArg ValueIdx.ix1 (Fin.ext (Nat.mod_eq_of_lt hj).symm))
  rw [e]
  exact (u_mono hU (a := (j 0).val) (b := 8) (by omega) le_rfl).trans hU.last

/-! ## The two results -/

/-- The kernel's row of a segment, where the segment reaches it: the token at the segment's start and the row. -/
theorem G_token (X : S8192x512.Idx → F .f32) (w : Fin 9 → BitVec 32) (b : Fin 8) (s : Fin 2048) (e : Fin 512)
    (h : s.val < (w b.succ).toNat - (w b.castSucc).toNat) (ht : (w b.castSucc).toNat + s.val < 8192) :
    G X w (ValueIdx.ix2 (⟨2048 * b.val + s.val, by omega⟩ : Fin 16384) e) = X (ValueIdx.ix2 (⟨(w b.castSucc).toNat + s.val, ht⟩ : Fin 8192) e) := by
  have hb : (⟨(2048 * b.val + s.val) / 2048, by omega⟩ : Fin 8) = b := Fin.ext (by show (2048 * b.val + s.val) / 2048 = b.val; omega)
  have hm : (2048 * b.val + s.val) % 2048 = s.val := by omega
  have hx : (ValueIdx.ix2 (⟨2048 * b.val + s.val, by omega⟩ : Fin 16384) e : Cert.KernelIdeal.S16384x512.Idx) 0 = (⟨2048 * b.val + s.val, by omega⟩ : Fin 16384) := rfl
  unfold G
  simp only [hx, hb, hm]
  rw [dif_pos ⟨h, ht⟩]
  refine congrArg X (funext fun a => ?_)
  match a with
  | ⟨0, _⟩ => rfl
  | ⟨1, _⟩ => rfl

/-- The kernel's row of a segment past the segment's last token: nought. -/
theorem G_zero (X : S8192x512.Idx → F .f32) (w : Fin 9 → BitVec 32) (b : Fin 8) (s : Fin 2048) (e : Fin 512)
    (h : ¬ s.val < (w b.succ).toNat - (w b.castSucc).toNat) :
    G X w (ValueIdx.ix2 (⟨2048 * b.val + s.val, by omega⟩ : Fin 16384) e) = FloatOps.ofBits .f32 0x00000000#32 := by
  have hb : (⟨(2048 * b.val + s.val) / 2048, by omega⟩ : Fin 8) = b := Fin.ext (by show (2048 * b.val + s.val) / 2048 = b.val; omega)
  have hm : (2048 * b.val + s.val) % 2048 = s.val := by omega
  have hx : (ValueIdx.ix2 (⟨2048 * b.val + s.val, by omega⟩ : Fin 16384) e : Cert.KernelIdeal.S16384x512.Idx) 0 = (⟨2048 * b.val + s.val, by omega⟩ : Fin 16384) := rfl
  unfold G
  simp only [hx, hb, hm]
  rw [dif_neg fun h' => h h'.1]
  rfl

/-- The kernel's array, reshaped, at a segment, a row and a column. -/
theorem kernel_dense_ix (hU : Rag U) (X : S8192x512.Idx → F .f32) (b : Fin 8) (s : Fin 2048) (e : Fin 512) :
    shapeCast S8x2048x512 (G X (wds (Cv U))) Cert.KernelIdeal.Gen.shapeCasts_S16384x512_S8x2048x512 (ValueIdx.ix3 b s e) = denseI X U (ValueIdx.ix3 b s e) := by
  have hb := b.isLt
  have hs := s.isLt
  refine (shapeCast_apply (G X (wds (Cv U))) _ (ValueIdx.ix3 b s e) (ValueIdx.ix2 (⟨2048 * b.val + s.val, by omega⟩ : Fin 16384) e) ?_).trans ?_
  · rw [Shape.rowMajor_val_three, Shape.rowMajor_val_two]
    show (2048 * b.val + s.val) * 512 + e.val = (b.val * 2048 + s.val) * 512 + e.val
    omega
  have e0 : (wds (Cv U) b.castSucc).toNat = u U b.val := by
    rw [wds_Cv]; unfold u
    exact congrArg (fun q => (U (ValueIdx.ix1 q)).toNat) (Fin.ext (Nat.mod_eq_of_lt (by omega)).symm)
  have e1 : (wds (Cv U) b.succ).toNat = u U (b.val + 1) := by
    rw [wds_Cv]; unfold u
    exact congrArg (fun q => (U (ValueIdx.ix1 q)).toNat) (Fin.ext (Nat.mod_eq_of_lt (by omega)).symm)
  have hl := (u_mono hU (a := b.val + 1) (b := 8) (by omega) le_rfl).trans hU.last
  have hle := u_mono hU (a := b.val) (b := b.val + 1) (by omega) (by omega)
  by_cases h : s.val < u U (b.val + 1) - u U b.val
  · rw [dense_token hU X b s e h ⟨u U b.val + s.val, by omega⟩ rfl]
    refine (G_token X (wds (Cv U)) b s e (by rw [e0, e1]; exact h) (by rw [e0]; omega)).trans ?_
    exact congrArg X (congrArg (ValueIdx.ix2 · e) (Fin.ext (by show _ + _ = _ + _; rw [e0])))
  · rw [dense_zero hU X b s e h]
    exact G_zero X (wds (Cv U)) b s e (by rw [e0, e1]; exact h)

/-- The kernel's array, reshaped, is the reference's. -/
theorem kernel_dense (hU : Rag U) (X : S8192x512.Idx → F .f32) (x : S8x2048x512.Idx) :
    shapeCast S8x2048x512 (G X (wds (Cv U))) Cert.KernelIdeal.Gen.shapeCasts_S16384x512_S8x2048x512 x = denseI X U x := by
  rw [ValueIdx.eq_ix3 x]
  exact kernel_dense_ix hU X (x 0) (x 1) (x 2)

end Cert.Proof.Value
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_cu_in_range
public import proofs.«01_k».proof.Proof.Gen.Pre_cu_is_ragged
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel over the bits runs, leaves its arguments and its counters as they were. -/
theorem kernel_frame : Cert.quiescent_Kernel (hKernel := Cert.Kernel.Gen.facts) (hPre_cu_in_range := Cert.Pre_cu_in_range.Gen.facts) :=
  fun m g h => Cert.Proof.Kernel.frame_run m g (Cert.Proof.Kernel.preOK_of m h)

/-- The same of the kernel over the ideal numbers, the boundaries in range. -/
theorem ideal_frame : Cert.quiescent_KernelIdeal (hKernelIdeal := Cert.KernelIdeal.Gen.facts) (hPre_cu_in_range := Cert.Pre_cu_in_range.Gen.facts) :=
  fun m g h => Cert.Proof.KernelIdeal.frame_run m g (Cert.Proof.KernelIdeal.preOK_of m h)

/-- Ragged boundaries are words the kernel runs on. -/
theorem preOK_ragged (m : (ℓ : Loc Cert.KernelIdeal.nD Cert.KernelIdeal.τ Cert.KernelIdeal.sig) → Buf (Elt Ideal) ℓ)
    (h : Cert.Pre_KernelIdeal_cu_is_ragged (hPre_cu_is_ragged := Cert.Pre_cu_is_ragged.Gen.facts) m) : Cert.Proof.KernelIdeal.PreOK m :=
  fun d => Cert.Proof.KernelIdeal.rng_of (Cert.Proof.Value.rag_range (Cert.Proof.Value.rag_of (h d)))

/-- The kernel over the ideal numbers runs, leaves its arguments and its counters, the boundaries ragged. -/
theorem ideal_frame_ragged : Cert.quiescent_KernelIdeal_pre_cu_is_ragged (hKernelIdeal := Cert.KernelIdeal.Gen.facts)
    (hPre_cu_is_ragged := Cert.Pre_cu_is_ragged.Gen.facts) :=
  fun m g h => Cert.Proof.KernelIdeal.frame_run m g (preOK_ragged m h)

/-- The reference runs, leaves its arguments and its counters. -/
theorem reference_frame : Cert.quiescent_ReferenceIdeal (hReferenceIdeal := Cert.ReferenceIdeal.Gen.facts) :=
  fun m g _ => (θ_run _ _ _).mono (fun r h => ⟨fun c => (h c).2, sem_eq_zero_of_no_sems rfl r.2⟩)
    (Cert.ReferenceIdeal.Value.run (F := Ideal) m g)

/-- The two results, from arguments which agree, are equal. -/
theorem values : Cert.algebraic_KernelIdeal_ReferenceIdeal_pre_cu_is_ragged (hKernelIdeal := Cert.KernelIdeal.Gen.facts)
    (hReferenceIdeal := Cert.ReferenceIdeal.Gen.facts) (hPre_cu_is_ragged := Cert.Pre_cu_is_ragged.Gen.facts) := by
  intro m g m' g' h hm
  refine ⟨fun c => Cert.Proof.KernelIdeal.Rv m c, ?_, ?_⟩
  · exact (θ_run _ _ _).mono (fun r hr c => ⟨(hr.1 c).2.2, (hr.1 c).1, (hr.1 c).2.1⟩)
      (Cert.Proof.KernelIdeal.run_main m g (preOK_ragged m h))
  · refine (θ_run _ _ _).mono (fun r hr c => ⟨(hr c).1.trans ?_, (hr c).2⟩) (Cert.ReferenceIdeal.Value.run (F := Ideal) m' g')
    rw [Cert.Proof.Reference.res_eq]
    rw [(hm c).1, (hm c).2]
    exact funext fun x => (Cert.Proof.Value.kernel_dense (Cert.Proof.Value.rag_of (h c)) _ x).symm

/-- All that is claimed of the kernel and the reference. -/
theorem claim : Cert.Claim :=
  ⟨Cert.Kernel.Gen.facts, Cert.KernelIdeal.Gen.facts, Cert.ReferenceIdeal.Gen.facts, Cert.Pre_cu_in_range.Gen.facts, Cert.Pre_cu_is_ragged.Gen.facts,
    kernel_frame, ideal_frame, ideal_frame_ragged, reference_frame, fun m g _ => reference_frame m g trivial, trivial, values⟩

end Cert.Proof

end
